-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨2, ![8192, 2048]⟩ ⟨2, ![8192, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .bf16) (main_arg1 : FVec F S2048 .bf16) (main_arg2 : FVec F S2048 .bf16) : IVec S8192x2048 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  main_v2
-- ==== Pre_finite_x_ReferenceIdeal.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)

variable [Facts]

def fn {F : FTy → Type} [FloatOps F] (main_arg0 : FVec F S8192x8192 .bf16) (main_arg1 : FVec F S8192 .bf16) (main_arg2 : FVec F S8192 .bf16) : IVec S8192x8192 1 :=
  let main_v0 : FVec F S8192x8192 .bf16 := Host.absf main_arg0
  let main_cst : FVec F S_ .bf16 := constant S_ .bf16 0x7F80#16
  let main_v1 : FVec F S8192x8192 .bf16 := broadcastInDim S8192x8192 ![] bcast_S_S8192x8192 main_cst
  let main_v2 : IVec S8192x8192 1 := cmpf .olt main_v0 main_v1
  main_v2
-- ==== Kernel.lean ====
abbrev S8192x2048 : Shape := ⟨2, ![8192, 2048]⟩
abbrev S2048 : Shape := ⟨1, ![2048]⟩
abbrev S8x1024 : Shape := ⟨2, ![8, 1024]⟩
abbrev S1024x2048 : Shape := ⟨2, ![1024, 2048]⟩
abbrev S1x2048 : Shape := ⟨2, ![1, 2048]⟩
abbrev S1x1024 : Shape := ⟨2, ![1, 1024]⟩
abbrev S8192x2 : Shape := ⟨2, ![8192, 2]⟩
abbrev S4x16x1024 : Shape := ⟨3, ![4, 16, 1024]⟩
abbrev S4 : Shape := ⟨1, ![4]⟩
abbrev S_ : Shape := ⟨0, ![]⟩
abbrev S1x8x1024 : Shape := ⟨3, ![1, 8, 1024]⟩
abbrev S1 : Shape := ⟨1, ![1]⟩
abbrev S1x16x1024 : Shape := ⟨3, ![1, 16, 1024]⟩
abbrev S16x1024 : Shape := ⟨2, ![16, 1024]⟩
abbrev S1024x1024 : Shape := ⟨2, ![1024, 1024]⟩
abbrev S1024x16 : Shape := ⟨2, ![1024, 16]⟩
abbrev S1024x1 : Shape := ⟨2, ![1024, 1]⟩
abbrev S1024x2 : Shape := ⟨2, ![1024, 2]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048, .bf16⟩
  | .hbm, ⟨2, _⟩ => ⟨S2048, .bf16⟩
  | .hbm, ⟨3, _⟩ => ⟨S8192x2048, .bf16⟩
  | .hbm, ⟨4, _⟩ => ⟨S8x1024, .f32⟩
  | .hbm, ⟨5, _⟩ => ⟨S8x1024, .f32⟩
  | .hbm, ⟨6, _⟩ => ⟨S8192x2, .bf16⟩
  | .hbm, ⟨7, _⟩ => ⟨S1x2048, .bf16⟩
  | .hbm, ⟨8, _⟩ => ⟨S1x2048, .bf16⟩
  | .hbm, ⟨9, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8192x2, .bf16⟩
  | .local _ .vmem, ⟨9, _⟩ => ⟨S4x16x1024, .f32⟩
  | .local _ .vmem, ⟨10, _⟩ => ⟨S1024x2048, .bf16⟩
  | .local _ .vmem, ⟨11, _⟩ => ⟨S1024x2048, .bf16⟩
  | .local _ .vmem, ⟨12, _⟩ => ⟨S1024x2, .bf16⟩
  | .local _ .vmem, ⟨13, _⟩ => ⟨S1024x2, .bf16⟩
  | .local _ .vmem, ⟨14, _⟩ => ⟨S1x2048, .bf16⟩
  | .local _ .vmem, ⟨15, _⟩ => ⟨S1x2048, .bf16⟩
  | .local _ .vmem, ⟨16, _⟩ => ⟨S1024x2048, .bf16⟩
  | .local _ .vmem, ⟨17, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev barrier0 : Sem sig := 0

abbrev nD : Nat := 4
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v5 : Index := Scalar.indexCast arg0
  let c0_4 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k1_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v18 : Index := Scalar.indexCast v2
  let c0_14 : Index := 0#32
  let c0_15 : Index := 0#32
  ![v18.toNat, 0, 0]
def k1_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : Index := Scalar.indexCast v2
  let c8 : Index := 8#32
  let c0_18 : Index := 0#32
  ![v24.toNat, 8, 0]
def k1_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k1_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_24 : BitVec 32 := 0#32
  let c0_i32_25 : BitVec 32 := 0#32
  ![v2.toNat, 0, 0]
def k1_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.addi v2 c1_i32_19
  let c4_i32_20 : BitVec 32 := 4#32
  let v29 : BitVec 32 := Scalar.remsi v28 c4_i32_20
  let c1_i32_22 : BitVec 32 := 1#32
  let v30 : BitVec 32 := Scalar.muli v29 c1_i32_22
  let v31 : BitVec 32 := Scalar.addi c0_i32_23 v30
  v31.toNat
def k1_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v40 : BitVec 32 := Scalar.addi v2 c2_i32_28
  let c4_i32_29 : BitVec 32 := 4#32
  let v41 : BitVec 32 := Scalar.remsi v40 c4_i32_29
  let c1_i32_31 : BitVec 32 := 1#32
  let v42 : BitVec 32 := Scalar.muli v41 c1_i32_31
  let v43 : BitVec 32 := Scalar.addi c0_i32_32 v42
  v43.toNat
def k1_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v52 : BitVec 32 := Scalar.addi v2 c3_i32_37
  let c4_i32_38 : BitVec 32 := 4#32
  let v53 : BitVec 32 := Scalar.remsi v52 c4_i32_38
  let c1_i32_40 : BitVec 32 := 1#32
  let v54 : BitVec 32 := Scalar.muli v53 c1_i32_40
  let v55 : BitVec 32 := Scalar.addi c0_i32_41 v54
  v55.toNat
def k1_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : Index := Scalar.indexCast v2
  let c0_46 : Index := 0#32
  let c0_47 : Index := 0#32
  ![v64.toNat, 0, 0]
def k1_off6 (d0 : Dev nD) (c1_i32_48 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.subi v2 c1_i32_48
  let c4_i32_49 : BitVec 32 := 4#32
  let v68 : BitVec 32 := Scalar.addi v67 c4_i32_49
  let c4_i32_50 : BitVec 32 := 4#32
  let v69 : BitVec 32 := Scalar.remsi v68 c4_i32_50
  ![v69.toNat]
def k1_off7 (d0 : Dev nD) (c1_i32_48 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.subi v2 c1_i32_48
  let c4_i32_49 : BitVec 32 := 4#32
  let v68 : BitVec 32 := Scalar.addi v67 c4_i32_49
  let c4_i32_50 : BitVec 32 := 4#32
  let v69 : BitVec 32 := Scalar.remsi v68 c4_i32_50
  let c0_i32_54 : BitVec 32 := 0#32
  let c0_i32_55 : BitVec 32 := 0#32
  ![v69.toNat, 0, 0]
def k1_off8 (d0 : Dev nD) (c1_i32_48 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.subi v2 c1_i32_48
  let c4_i32_49 : BitVec 32 := 4#32
  let v68 : BitVec 32 := Scalar.addi v67 c4_i32_49
  let c4_i32_50 : BitVec 32 := 4#32
  let v69 : BitVec 32 := Scalar.remsi v68 c4_i32_50
  let v78 : Index := Scalar.indexCast v69
  let c0_58 : Index := 0#32
  let c0_59 : Index := 0#32
  ![v78.toNat, 0, 0]
abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8192x2 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x2 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192, .bf16⟩
  | .hbm, ⟨2, _⟩ => ⟨S8192, .bf16⟩
  | .hbm, ⟨3, _⟩ => ⟨S8192x8192, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .i32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.Norm.Schedule.lean ====
/- The exchange of the statistics between the four devices (custom_call 1): its buffers cut in slots, its semaphore
   cells, and who pays which cell what.

   Device `c` keeps slot `c` of its communication buffer and hands slot `p` to device `p` with the barrier signal it
   sends `p`; `p` copies its own statistics into that slot, which pays the slot's receive cell; the copies' sources are
   shares of `p`'s own slot, which come back through `p`'s send cells. All slots of all devices end at the one function
   `A` of the buffer's index: slot `s` is the statistics of device `s`. -/
module

public import proofs.«01_k».proof.Proof.Gen.KernelIdeal.Skeleton
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Kit
public import Idealize.ShloMosaic.Lib.Rounds
public import Idealize.ShloMosaic.Lib.Ring
public import Idealize.ShloMosaic.Lib.ValueLayout
public import Idealize.ShloMosaic.Lib.Tactic

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- The duty names of the exchange are devices: a barrier cell has one duty per peer. -/
abbrev UT : Type := URounds (GSem nD τ sig) (Dev nD)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## The peers -/

/-- The device `k` places after `c`. -/
abbrev pk (k : Fin 4) (c : Dev nD) : Dev nD := ⟨(c.val + k.val) % 4, Nat.mod_lt _ (by decide)⟩

theorem pk_1_3 (c : Dev nD) : pk 1 (pk 3 c) = c := by revert c; decide
theorem pk_3_1 (c : Dev nD) : pk 3 (pk 1 c) = c := by revert c; decide
theorem pk_2_2 (c : Dev nD) : pk 2 (pk 2 c) = c := by revert c; decide
theorem pk_ne (k : Fin 4) (hk : k ≠ 0) (c : Dev nD) : pk k c ≠ c := by revert k c; decide
theorem ne_pk (k : Fin 4) (hk : k ≠ 0) (c : Dev nD) : c ≠ pk k c := fun h => pk_ne k hk c h.symm

theorem dev1_eq (c : Dev nD) : (⟨k1_dev1 c, k1_dev1_lt c⟩ : Dev nD) = pk 1 c := Fin.ext (k1_dev1_eq c)
theorem dev2_eq (c : Dev nD) : (⟨k1_dev2 c, k1_dev2_lt c⟩ : Dev nD) = pk 2 c := Fin.ext (k1_dev2_eq c)
theorem dev3_eq (c : Dev nD) : (⟨k1_dev3 c, k1_dev3_lt c⟩ : Dev nD) = pk 3 c := Fin.ext (k1_dev3_eq c)
theorem dev4_eq (c : Dev nD) : (⟨k1_dev4 c, k1_dev4_lt c⟩ : Dev nD) = pk 1 c := Fin.ext (k1_dev4_eq c)
theorem dev5_eq (c : Dev nD) : (⟨k1_dev5 c, k1_dev5_lt c⟩ : Dev nD) = pk 2 c := Fin.ext (k1_dev5_eq c)
theorem dev6_eq (c : Dev nD) : (⟨k1_dev6 c, k1_dev6_lt c⟩ : Dev nD) = pk 3 c := Fin.ext (k1_dev6_eq c)

/-! ## Semaphores and cells -/

/-- The send semaphore of the copy to the device `k` places on, and the receive semaphore of slot `s`. -/
abbrev sS (k : Fin 4) : DmaSem sig := ⟨9 + k.val, by have := k.isLt; show 9 + k.val < 25; omega⟩
abbrev rS (s : Dev nD) : DmaSem sig := ⟨13 + s.val, by have h : s.val < 4 := s.isLt; show 13 + s.val < 25; omega⟩

theorem send1_eq : ((cc1_scratch1.slice (Rect.unit (s := S4) ![1] ![1] inb_S4_S1_1)).squeeze S_ squeezes_S1_S_).sem = sS 1 := rfl
theorem send2_eq : ((cc1_scratch1.slice (Rect.unit (s := S4) ![2] ![1] inb_S4_S1_2)).squeeze S_ squeezes_S1_S_).sem = sS 2 := rfl
theorem send3_eq : ((cc1_scratch1.slice (Rect.unit (s := S4) ![3] ![1] inb_S4_S1_3)).squeeze S_ squeezes_S1_S_).sem = sS 3 := rfl
theorem recv_own_eq (c : Dev nD) : ((cc1_scratch2.slice (Rect.unit (s := S4) (k1_off3 c) ![1] (k1_off3_inb c))).squeeze S_ squeezes_S1_S_).sem = rS c := by
  revert c; decide
theorem recv3_eq (c : Dev nD) : ((cc1_scratch2.slice (Rect.unit (s := S4) (k1_off6 c 1#32) ![1] (k1_off6_inb c 0))).squeeze S_ squeezes_S1_S_).sem = rS (pk 3 c) := by
  revert c; decide
theorem recv2_eq (c : Dev nD) : ((cc1_scratch2.slice (Rect.unit (s := S4) (k1_off6 c 2#32) ![1] (k1_off6_inb c 1))).squeeze S_ squeezes_S1_S_).sem = rS (pk 2 c) := by
  revert c; decide
theorem recv1_eq (c : Dev nD) : ((cc1_scratch2.slice (Rect.unit (s := S4) (k1_off6 c 3#32) ![1] (k1_off6_inb c 2))).squeeze S_ squeezes_S1_S_).sem = rS (pk 1 c) := by
  revert c; decide

abbrev barCell (c : Dev nD) : GSem nD τ sig := ((c : Thread nD τ), .reg barrier0)
abbrev sendCell (c : Dev nD) (k : Fin 4) : GSem nD τ sig := ((c : Thread nD τ), .dma (sS k))
abbrev recvCell (c s : Dev nD) : GSem nD τ sig := ((c : Thread nD τ), .dma (rS s))

/-- The exchange's own (scoped) semaphores: the four send ones, then the four receive ones. -/
abbrev osem1 (k : Fin 8) : SemLoc sig := .dma (⟨9 + k.val, by have := k.isLt; show 9 + k.val < 25; omega⟩ : DmaSem sig)

/-! ## The communication buffer and its slots -/

abbrev commM : Memref sig .tc .vmem S4x16x1024 .f32 := Memref.whole cc1_scratch0

/-- Slot `s` as the copies name it. -/
abbrev slotM (s : Dev nD) : Memref sig .tc .vmem S16x1024 .f32 :=
  (commM.slice (Rect.unit (s := S4x16x1024) (k1_off4 s) S1x16x1024.size (k1_off4_inb s)) (fun _ => rfl)).squeeze S16x1024 squeezes_S1x16x1024_S16x1024

/-- Slot `s`'s places of the buffer. -/
def slotSet (s : Dev nD) : Finset S4x16x1024.Idx := (Rect.unit (s := S4x16x1024) (k1_off4 s) S1x16x1024.size (k1_off4_inb s)).set

theorem slotM_set (s : Dev nD) : (slotM s).view.set = slotSet s :=
  (View.set_reshape (v := (commM.slice (Rect.unit (s := S4x16x1024) (k1_off4 s) S1x16x1024.size (k1_off4_inb s)) (fun _ => rfl)).view) _).trans
    (View.set_slice_whole cc1_scratch0 _)

theorem mem_slotSet (s : Dev nD) (i : S4x16x1024.Idx) : i ∈ slotSet s ↔ (i 0).val = s.val := by
  unfold slotSet
  rw [Rect.mem_set_unit, k1_off4_eq]
  constructor
  · intro h; have := h 0
    have h1 : s.val ≤ (i 0).val := this.1
    have h2 : (i 0).val < s.val + 1 := this.2
    omega
  · intro h a
    have h1 : (i 1).val < 16 := (i 1).isLt
    have h2 : (i 2).val < 1024 := (i 2).isLt
    fin_cases a
    · exact ⟨(by show s.val ≤ (i 0).val; omega), (by show (i 0).val < s.val + 1; omega)⟩
    · exact ⟨Nat.zero_le _, (by show (i 1).val < 0 + 16; omega)⟩
    · exact ⟨Nat.zero_le _, (by show (i 2).val < 0 + 1024; omega)⟩

theorem slots_disjoint (s s' : Dev nD) (h : s ≠ s') : Disjoint (slotSet s) (slotSet s') := by
  rw [Finset.disjoint_left]
  intro i hi hi'
  exact h (Fin.ext (((mem_slotSet s i).mp hi).symm.trans ((mem_slotSet s' i).mp hi')))

theorem slots_cover : (Finset.univ : Finset (Dev nD)).biUnion slotSet = Finset.univ := by
  ext i
  simp only [Finset.mem_biUnion, Finset.mem_univ, true_and, iff_true]
  exact ⟨⟨(i 0).val, (i 0).isLt⟩, (mem_slotSet _ i).mpr rfl⟩

abbrev Comm (F : FTy → Type) : Type := (cc1_scratch0 : Ref sig .tc).ty.Contents (Elt F)

/-- Device `c`'s slot `s`, held at a share `q` with the contents `f` says. -/
abbrev slotAt (c s : Dev nD) (q : PosShare TreeShare) (f : Comm F) : sProp 𝕄 :=
  ((c : Thread nD τ).loc cc1_scratch0) ↦[slotSet s]{q} f

/-- The own slot is cut in four shares: share 0 stays, share `k` is lent to the copy that goes `k` places on. -/
def shr : Fin 4 → PosShare TreeShare
  | 0 => fullShare.left.left | 1 => fullShare.left.right | 2 => fullShare.right.left | 3 => fullShare.right.right

theorem slot_shares (c s : Dev nD) (f : Comm F) :
    (slotAt c s fullShare f : sProp 𝕄) ⊣⊢ iprop((slotAt c s (shr 0) f ∗ slotAt c s (shr 1) f) ∗ (slotAt c s (shr 2) f ∗ slotAt c s (shr 3) f)) := by
  have h := pointsTo_share (nD := nD) (τ := τ) (sig := sig) (Ix := Unit) (Val := Elt F) (Name := ℕ) (U := UU) (Lvl := ℕ) (ℓ := (c : Thread nD τ).loc cc1_scratch0)
    (I := slotSet s) (f := f) (PosShare.mem_left_op_right fullShare)
  have hl := pointsTo_share (nD := nD) (τ := τ) (sig := sig) (Ix := Unit) (Val := Elt F) (Name := ℕ) (U := UU) (Lvl := ℕ) (ℓ := (c : Thread nD τ).loc cc1_scratch0)
    (I := slotSet s) (f := f) (PosShare.mem_left_op_right fullShare.left)
  have hr := pointsTo_share (nD := nD) (τ := τ) (sig := sig) (Ix := Unit) (Val := Elt F) (Name := ℕ) (U := UU) (Lvl := ℕ) (ℓ := (c : Thread nD τ).loc cc1_scratch0)
    (I := slotSet s) (f := f) (PosShare.mem_left_op_right fullShare.right)
  exact ⟨h.1.trans (BI.sep_mono hl.1 hr.1), (BI.sep_mono hl.2 hr.2).trans h.2⟩

/-- The whole buffer is its four slots, listed from `c`'s own on. -/
theorem comm_slots (c : Dev nD) (Φ : Dev nD → sProp 𝕄) :
    bigSep Finset.univ Φ = iprop(Φ c ∗ Φ (pk 1 c) ∗ Φ (pk 2 c) ∗ Φ (pk 3 c)) :=
  bigSep_univ_eq_bigSepL [c, pk 1 c, pk 2 c, pk 3 c] (by revert c; decide) (by revert c; decide) Φ

theorem comm_split (c d : Dev nD) (f : Comm F) :
    (((d : Thread nD τ).loc cc1_scratch0) ↦{fullShare} f : sProp 𝕄)
      = iprop(slotAt d c fullShare f ∗ slotAt d (pk 1 c) fullShare f ∗ slotAt d (pk 2 c) fullShare f ∗ slotAt d (pk 3 c) fullShare f) := by
  rw [← comm_slots c (fun s => slotAt d s fullShare f)]
  exact Idealize.ShloMosaic.Ring.pointsTo_blocks (ℓ := (d : Thread nD τ).loc cc1_scratch0) slotSet slots_disjoint slots_cover f

/-! ## The contents -/

/-- The statistics of all devices as the communication buffer holds them: slot `s` is device `s`'s eight rows of sums over
    its eight rows of sums of squares. -/
def commOf (s q : Dev nD → FVec F S8x1024 .f32) : Comm F := fun i =>
  if h : (i 1).val < 8 then s ⟨(i 0).val, (i 0).isLt⟩ (ix2 (⟨(i 1).val, h⟩ : Fin 8) (⟨(i 2).val, (i 2).isLt⟩ : Fin 1024))
  else q ⟨(i 0).val, (i 0).isLt⟩ (ix2 (⟨(i 1).val - 8, by have h1 : (i 1).val < 16 := (i 1).isLt; omega⟩ : Fin 8) (⟨(i 2).val, (i 2).isLt⟩ : Fin 1024))

/-- The own slot's two halves: the sums' rectangle and the squares'. -/
abbrev rectS (c : Dev nD) : Rect S4x16x1024 := Rect.unit (s := S4x16x1024) (k1_off1 c) S1x8x1024.size (k1_off1_inb c)
abbrev rectQ (c : Dev nD) : Rect S4x16x1024 := Rect.unit (s := S4x16x1024) (k1_off2 c) S1x8x1024.size (k1_off2_inb c)

theorem mem_rectS (c : Dev nD) (i : S4x16x1024.Idx) : i ∈ (rectS c).set ↔ (i 0).val = c.val ∧ (i 1).val < 8 := by
  rw [Rect.mem_set_unit, k1_off1_eq]
  have h2 : (i 2).val < 1024 := (i 2).isLt
  constructor
  · intro h
    have h0 : c.val ≤ (i 0).val ∧ (i 0).val < c.val + 1 := h 0
    have h1 : 0 ≤ (i 1).val ∧ (i 1).val < 0 + 8 := h 1
    omega
  · intro h a
    fin_cases a
    · exact ⟨(by show c.val ≤ (i 0).val; omega), (by show (i 0).val < c.val + 1; omega)⟩
    · exact ⟨Nat.zero_le _, (by show (i 1).val < 0 + 8; omega)⟩
    · exact ⟨Nat.zero_le _, (by show (i 2).val < 0 + 1024; omega)⟩

theorem mem_rectQ (c : Dev nD) (i : S4x16x1024.Idx) : i ∈ (rectQ c).set ↔ (i 0).val = c.val ∧ 8 ≤ (i 1).val := by
  rw [Rect.mem_set_unit, k1_off2_eq]
  have h1' : (i 1).val < 16 := (i 1).isLt
  have h2 : (i 2).val < 1024 := (i 2).isLt
  constructor
  · intro h
    have h0 : c.val ≤ (i 0).val ∧ (i 0).val < c.val + 1 := h 0
    have h1 : 8 ≤ (i 1).val ∧ (i 1).val < 8 + 8 := h 1
    omega
  · intro h a
    fin_cases a
    · exact ⟨(by show c.val ≤ (i 0).val; omega), (by show (i 0).val < c.val + 1; omega)⟩
    · exact ⟨(by show 8 ≤ (i 1).val; omega), (by show (i 1).val < 8 + 8; omega)⟩
    · exact ⟨Nat.zero_le _, (by show (i 2).val < 0 + 1024; omega)⟩

theorem rectS_sub (c : Dev nD) : (rectS c).set ⊆ slotSet c := fun i hi => (mem_slotSet c i).mpr ((mem_rectS c i).mp hi).1
theorem rectQ_sub (c : Dev nD) : (rectQ c).set ⊆ slotSet c := fun i hi => (mem_slotSet c i).mpr ((mem_rectQ c i).mp hi).1

theorem pay1_apply (v : FVec F S8x1024 .f32) (u : Fin 1) (a : Fin 8) (b : Fin 1024) : k1_pay1 v (ix3 u a b) = v (ix2 a b) := by
  show shapeCast S1x8x1024 (shapeCast S8x1024 v shapeCasts_S8x1024_S8x1024) shapeCasts_S8x1024_S1x8x1024 (ix3 u a b) = _
  rw [shapeCast_self]
  exact ValueIdx.shapeCast_ab_1ab_apply v _ u a b
theorem pay3_apply (v : FVec F S8x1024 .f32) (u : Fin 1) (a : Fin 8) (b : Fin 1024) : k1_pay3 (k1_pay2 v) (ix3 u a b) = v (ix2 a b) := by
  show shapeCast S1x8x1024 (shapeCast S8x1024 v shapeCasts_S8x1024_S8x1024) shapeCasts_S8x1024_S1x8x1024 (ix3 u a b) = _
  rw [shapeCast_self]
  exact ValueIdx.shapeCast_ab_1ab_apply v _ u a b

theorem pieceQ (s q : Dev nD → FVec F S8x1024 .f32) (c : Dev nD) (x : S1x8x1024.Idx) : k1_pay3 (k1_pay2 (q c)) x = commOf s q ((rectQ c).emb x) := by
  obtain ⟨u, a, b, rfl⟩ : ∃ (u : Fin 1) (a : Fin 8) (b : Fin 1024), x = ix3 u a b := ⟨x 0, x 1, x 2, ValueIdx.eq_ix3 (n0 := 1) (n1 := 8) (n2 := 1024) x⟩
  have e0 : (((rectQ c).emb (ix3 u a b)) 0).val = c.val := by
    show k1_off2 c 0 + 1 * u.val = _
    rw [k1_off2_eq]; show c.val + 1 * u.val = _; omega
  have e1 : (((rectQ c).emb (ix3 u a b)) 1).val = 8 + a.val := by
    show k1_off2 c 1 + 1 * a.val = _
    rw [k1_off2_eq]; show 8 + 1 * a.val = _; omega
  have e2 : (((rectQ c).emb (ix3 u a b)) 2).val = b.val := by
    show k1_off2 c 2 + 1 * b.val = _
    rw [k1_off2_eq]; show 0 + 1 * b.val = _; omega
  rw [pay3_apply]
  unfold commOf
  rw [dif_neg (by rw [e1]; have := a.isLt; omega)]
  have hc : (⟨(((rectQ c).emb (ix3 u a b)) 0).val, (((rectQ c).emb (ix3 u a b)) 0).isLt⟩ : Dev nD) = c := Fin.ext e0
  rw [hc]
  congr 1
  funext d
  match d with
  | ⟨0, _⟩ => exact Fin.ext (by show a.val = (((rectQ c).emb (ix3 u a b)) 1).val - 8; rw [e1]; omega)
  | ⟨1, _⟩ => exact Fin.ext e2.symm

theorem pieceS (s q : Dev nD → FVec F S8x1024 .f32) (c : Dev nD) (x : S1x8x1024.Idx) : k1_pay1 (s c) x = commOf s q ((rectS c).emb x) := by
  obtain ⟨u, a, b, rfl⟩ : ∃ (u : Fin 1) (a : Fin 8) (b : Fin 1024), x = ix3 u a b := ⟨x 0, x 1, x 2, ValueIdx.eq_ix3 (n0 := 1) (n1 := 8) (n2 := 1024) x⟩
  have e0 : (((rectS c).emb (ix3 u a b)) 0).val = c.val := by
    show k1_off1 c 0 + 1 * u.val = _
    rw [k1_off1_eq]; show c.val + 1 * u.val = _; omega
  have e1 : (((rectS c).emb (ix3 u a b)) 1).val = 0 + a.val := by
    show k1_off1 c 1 + 1 * a.val = _
    rw [k1_off1_eq]; show 0 + 1 * a.val = _; omega
  have e2 : (((rectS c).emb (ix3 u a b)) 2).val = b.val := by
    show k1_off1 c 2 + 1 * b.val = _
    rw [k1_off1_eq]; show 0 + 1 * b.val = _; omega
  rw [pay1_apply]
  unfold commOf
  rw [dif_pos (by rw [e1]; have := a.isLt; omega)]
  have hc : (⟨(((rectS c).emb (ix3 u a b)) 0).val, (((rectS c).emb (ix3 u a b)) 0).isLt⟩ : Dev nD) = c := Fin.ext e0
  rw [hc]
  congr 1
  funext d
  match d with
  | ⟨0, _⟩ => exact Fin.ext (by show a.val = (((rectS c).emb (ix3 u a b)) 1).val; rw [e1]; omega)
  | ⟨1, _⟩ => exact Fin.ext e2.symm

/-- The two stores that fill the own slot leave it at the common contents. -/
theorem stored_eq (s q : Dev nD → FVec F S8x1024 .f32) (c : Dev nD) (f : Comm F) (i : S4x16x1024.Idx) (hi : i ∈ slotSet c) :
    (commM.view.writes (Elt F) f [⟨rectQ c, k1_pay3 (k1_pay2 (q c))⟩, ⟨rectS c, k1_pay1 (s c)⟩] : Comm F) i = commOf s q i := by
  have h0 := (mem_slotSet c i).mp hi
  have key (g : Comm F) : commM.view.read (Elt F) g = g := View.read_whole cc1_scratch0 g
  refine (congrFun (key _).symm i).trans ?_
  refine View.read_writes_apply_of_pieces (v := commM.view) (f := f) (commOf s q) [⟨rectQ c, k1_pay3 (k1_pay2 (q c))⟩, ⟨rectS c, k1_pay1 (s c)⟩] ?_ i ?_
  · intro p hp x
    rcases List.mem_cons.mp hp with rfl | hp
    · exact pieceQ s q c x
    · obtain rfl := List.mem_singleton.mp hp
      exact pieceS s q c x
  · by_cases h8 : (i 1).val < 8
    · exact ⟨_, List.mem_cons_of_mem _ List.mem_cons_self, (mem_rectS c i).mpr ⟨h0, h8⟩⟩
    · exact ⟨_, List.mem_cons_self, (mem_rectQ c i).mpr ⟨h0, by omega⟩⟩

/-- A copy through slot `s` of contents `A` leaves the slot at `A`. -/
theorem landed_eq (s : Dev nD) (fd A : Comm F) (i : S4x16x1024.Idx) (hi : i ∈ slotSet s) :
    ((slotM s).view.write (Elt F) fd ((slotM s).view.read (Elt F) A) Finset.univ : Comm F) i = A i := by
  rw [View.write_read_eq_piecewise, Finset.piecewise_eq_of_mem _ _ _ (show i ∈ (slotM s).view.setOn Finset.univ by
    rw [View.setOn_univ, slotM_set]; exact hi)]

/-! ## The schedule -/

/-- What a copy through a slot credits. -/
abbrev N : ℕ := (slotM 0).view.dmaCredit
theorem N_pos : 0 < N := View.dmaCredit_pos _ (by decide)
theorem credit_eq (s : Dev nD) : (slotM s).view.dmaCredit = N := rfl

/-- What a semaphore of a TensorCore is for in the exchange. -/
inductive Role where
  | bar | send (k : Fin 4) | recv (s : Fin 4) | other
  deriving DecidableEq

def role : SemLoc sig → Role
  | .reg q => if q = barrier0 then .bar else .other
  | .dma q => if h : 9 ≤ q.val ∧ q.val < 13 then .send ⟨q.val - 9, by omega⟩
    else if h : 13 ≤ q.val ∧ q.val < 17 then .recv ⟨q.val - 13, by omega⟩ else .other

theorem role_bar : role (.reg barrier0) = .bar := by decide
theorem role_send (k : Fin 4) : role (.dma (sS k)) = .send k := by revert k; decide
theorem role_recv (s : Dev nD) : role (.dma (rS s)) = .recv s := by revert s; decide

/-- Device `p` pays the barrier cell of device `c` with its own slot `c` and that round 0 of the cell that slot's copy
    will pay is reached. -/
def barPay (c p : Dev nD) : sProp 𝕄 := iprop((∃ f : Comm F, slotAt p c fullShare f) ∗ reached ER (recvCell p c) 0)
/-- The copy from device `s` pays device `c` its slot `s` back, holding device `s`'s statistics. -/
def recvPay (A : Comm F) (c s : Dev nD) : sProp 𝕄 := slotAt c s fullShare A
/-- A completed copy pays its source's share back. -/
def sendPay (A : Comm F) (c : Dev nD) (k : Fin 4) : sProp 𝕄 := slotAt c c (shr k) A

def dutiesOf (c : Dev nD) : Role → Finset (Dev nD)
  | .bar => Finset.univ.erase c
  | .send _ => {0}
  | .recv _ => {0}
  | .other => ∅

def payOf (A : Comm F) (c d : Dev nD) : Role → sProp 𝕄
  | .bar => barPay c d
  | .send k => sendPay A c k
  | .recv s => recvPay A c s
  | .other => iprop(emp)

/-- One round: every peer's unit on a barrier cell, one copy on every send and receive cell. -/
def talkRd (A : Comm F) : Rounds.Schedule (GSem nD τ sig) (Dev nD) 𝕄 where
  duties g r := if r = 0 ∧ g.1.2 = .tc then dutiesOf g.1.1 (role g.2) else ∅
  unitless _ := False
  amount g _ _ := if role g.2 = .bar then 1 else N
  payload g _ d := payOf A g.1.1 d (role g.2)
  amount_pos g _ _ _ := by
    by_cases h : role g.2 = .bar
    · rw [if_pos h]; exact Nat.one_pos
    · rw [if_neg h]; exact N_pos

instance talkRd_payload_storable (A : Comm F) (g : GSem nD τ sig) (r : ℕ) (d : Dev nD) :
    BI.Storable (upEmb : UEmb _ 𝕄) ((talkRd (F := F) A).payload g r d) := by
  show BI.Storable upEmb (payOf A g.1.1 d (role g.2))
  cases role g.2 with
  | bar => dsimp only [payOf]; unfold barPay; infer_instance
  | send k => dsimp only [payOf]; unfold sendPay; infer_instance
  | recv s => dsimp only [payOf]; unfold recvPay; infer_instance
  | other => dsimp only [payOf]; infer_instance

section Sched

variable (A : Comm F) (c : Dev nD)

theorem duties_bar : (talkRd (F := F) A).duties (barCell c) 0 = Finset.univ.erase c := by
  dsimp only [talkRd]; rw [if_pos ⟨rfl, rfl⟩, role_bar]; rfl
theorem duties_send (k : Fin 4) : (talkRd (F := F) A).duties (sendCell c k) 0 = {0} := by
  dsimp only [talkRd]; rw [if_pos ⟨rfl, rfl⟩, role_send]; rfl
theorem duties_recv (s : Dev nD) : (talkRd (F := F) A).duties (recvCell c s) 0 = {0} := by
  dsimp only [talkRd]; rw [if_pos ⟨rfl, rfl⟩, role_recv]; rfl
theorem duties_later (g : GSem nD τ sig) : ∀ r, 1 ≤ r → (talkRd (F := F) A).duties g r = ∅ :=
  fun r hr => by dsimp only [talkRd]; rw [if_neg (fun h => by omega)]

theorem amount_bar (d : Dev nD) : (talkRd (F := F) A).amount (barCell c) 0 d = 1 := by dsimp only [talkRd]; exact if_pos role_bar
theorem amount_send (k : Fin 4) (d : Dev nD) : (talkRd (F := F) A).amount (sendCell c k) 0 d = N := by
  dsimp only [talkRd]; rw [if_neg (by rw [role_send]; intro h; cases h)]
theorem amount_recv (s d : Dev nD) : (talkRd (F := F) A).amount (recvCell c s) 0 d = N := by
  dsimp only [talkRd]; rw [if_neg (by rw [role_recv]; intro h; cases h)]

theorem expect_bar : (talkRd (F := F) A).expect (barCell c) 0 = 3 := by
  unfold Schedule.expect Schedule.amountOf
  rw [duties_bar, Finset.sum_congr rfl fun d _ => amount_bar A c d, Finset.sum_const, Finset.card_erase_of_mem (Finset.mem_univ c)]
  rfl
theorem expect_send (k : Fin 4) : (talkRd (F := F) A).expect (sendCell c k) 0 = N := by
  unfold Schedule.expect Schedule.amountOf; rw [duties_send, Finset.sum_singleton, amount_send]
theorem expect_recv (s : Dev nD) : (talkRd (F := F) A).expect (recvCell c s) 0 = N := by
  unfold Schedule.expect Schedule.amountOf; rw [duties_recv, Finset.sum_singleton, amount_recv]

theorem payload_bar (d : Dev nD) : (talkRd (F := F) A).payload (barCell c) 0 d = barPay c d := by
  dsimp only [talkRd]; rw [role_bar]; rfl
theorem payload_send (k : Fin 4) (d : Dev nD) : (talkRd (F := F) A).payload (sendCell c k) 0 d = sendPay A c k := by
  dsimp only [talkRd]; rw [role_send]; rfl
theorem payload_recv (s d : Dev nD) : (talkRd (F := F) A).payload (recvCell c s) 0 d = recvPay A c s := by
  dsimp only [talkRd]; rw [role_recv]; rfl

theorem peers_listed : (Finset.univ.erase c : Finset (Dev nD)) = {pk 1 c, pk 2 c, pk 3 c} := by revert c; decide

theorem rest_bar : bigSep ((talkRd (F := F) A).duties (barCell c) 0 \ ∅) (fun d => (talkRd (F := F) A).payload (barCell c) 0 d)
    = iprop(barPay c (pk 1 c) ∗ barPay c (pk 2 c) ∗ barPay c (pk 3 c)) := by
  rw [Finset.sdiff_empty, duties_bar, peers_listed, bigSep_insert (by revert c; decide), bigSep_insert (by revert c; decide), bigSep_singleton,
    payload_bar, payload_bar, payload_bar]
  rfl
theorem rest_send (k : Fin 4) : bigSep ((talkRd (F := F) A).duties (sendCell c k) 0 \ ∅) (fun d => (talkRd (F := F) A).payload (sendCell c k) 0 d)
    = slotAt c c (shr k) A := by
  rw [Finset.sdiff_empty, duties_send, bigSep_singleton, payload_send]; rfl
theorem rest_recv (s : Dev nD) : bigSep ((talkRd (F := F) A).duties (recvCell c s) 0 \ ∅) (fun d => (talkRd (F := F) A).payload (recvCell c s) 0 d)
    = slotAt c s fullShare A := by
  rw [Finset.sdiff_empty, duties_recv, bigSep_singleton, payload_recv]; rfl

end Sched

/-! ## What each core owes at launch; the levels -/

abbrev oweR (k : Fin 4) (c : Dev nD) : CellTallies nD τ sig Unit := tallyAt (recvCell (pk k c) c) () N
abbrev oweB (k : Fin 4) (c : Dev nD) : CellTallies nD τ sig Unit := tallyAt (barCell (pk k c)) () 1

/-- What is owed once the barrier signals are out: the three copies' credits. -/
def OR (c : Dev nD) : CellTallies nD τ sig Unit := oweR 3 c + oweR 2 c + oweR 1 c
/-- In the order the device pays, the last payment first: the copies one, two and three places on, the signals likewise. -/
def O₀ (c : Dev nD) : CellTallies nD τ sig Unit := OR c + oweB 3 c + oweB 2 c + oweB 1 c

def L (g : GSem nD τ sig) : Finset Unit := if g.1.2 = .tc then {()} else ∅
/-- Barrier cells at 1, receive cells at 2, the rest at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c s : Dev nD) : lv (recvCell c s) () = 2 := by unfold lv; rw [role_recv]

theorem tally_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem add_pos_iff' {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

theorem OR_pos {c : Dev nD} {g : GSem nD τ sig} {u : Unit} (h : 0 < OR c g u) : ∃ k : Fin 4, g = recvCell (pk k c) c := by
  unfold OR at h
  rcases add_pos_iff' h with h | h
  · rcases add_pos_iff' h with h | h
    · exact ⟨3, tally_pos h⟩
    · exact ⟨2, tally_pos h⟩
  · exact ⟨1, tally_pos h⟩

theorem O₀_pos {c : Dev nD} {g : GSem nD τ sig} {u : Unit} (h : 0 < O₀ c g u) :
    (∃ k : Fin 4, g = recvCell (pk k c) c) ∨ ∃ k : Fin 4, g = barCell (pk k c) := by
  unfold O₀ at h
  rcases add_pos_iff' h with h | h
  · rcases add_pos_iff' h with h | h
    · rcases add_pos_iff' h with h | h
      · exact .inl (OR_pos h)
      · exact .inr ⟨3, tally_pos h⟩
    · exact .inr ⟨2, tally_pos h⟩
  · exact .inr ⟨1, tally_pos h⟩

theorem mayWait_bar (c : Dev nD) : (levAts L lv : sProp 𝕄) ⊢ MayWait (c : Thread nD τ) (.reg barrier0) () (OR c) :=
  MayOwe.of_cut (L := L) (lev := lv) 1 (fun p hp => by rw [Finset.mem_singleton.mp hp, L_tc]; exact Finset.mem_singleton_self _)
    (fun g u hg => by obtain ⟨k, rfl⟩ := OR_pos hg; rw [L_tc]; exact Finset.mem_singleton_self _)
    (fun p hp => by rw [Finset.mem_singleton.mp hp]; exact le_of_eq (lv_bar c))
    (fun g u hg => by obtain ⟨k, rfl⟩ := OR_pos hg; rw [lv_recv]; decide)

end Cert.KernelIdeal.Norm

end
-- ==== Proof.Norm.Talk.lean ====
/- The exchange's body run once, on a symbolic device, from the protocol's launch state to its end: the barrier, the own
   slot filled, three remote copies, three landings, the mean and the reciprocal deviation of every row, and the send
   waits. -/
module

public import proofs.«01_k».proof.Proof.Norm.Schedule

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The protocol's ghost state -/

theorem osem1_inj : Function.Injective osem1 := by decide
theorem osem1_ne_bar : ∀ k : Fin 8, osem1 k ≠ .reg barrier0 := by decide

def barEmb : Dev nD ↪ GSem nD τ sig := ⟨fun c => barCell c, fun _ _ h => congrArg (fun g : GSem nD τ sig => g.1.1) h⟩
def scEmb : Dev nD × Fin 8 ↪ GSem nD τ sig :=
  ⟨fun ck => ((ck.1 : Thread nD τ), osem1 ck.2), fun _ _ h =>
    Prod.ext (congrArg (fun g : GSem nD τ sig => g.1.1) h) (osem1_inj (congrArg Prod.snd h))⟩

/-- The barrier cells, funded from their counters; the send and receive cells, funded dormant. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem1_ne_bar ck.2 (congrArg Prod.snd h)

theorem osem_send (k : Fin 4) : osem1 ⟨k.val, by omega⟩ = .dma (sS k) := rfl
theorem osem_recv (s : Dev nD) : osem1 ⟨4 + s.val, by have h : s.val < 4 := s.isLt; omega⟩ = .dma (rS s) :=
  congrArg SemLoc.dma (Fin.ext (by show 9 + (4 + s.val) = 13 + s.val; omega))

theorem bar_mem (c : Dev nD) : barCell c ∈ (barCells ∪ scCells : Finset (GSem nD τ sig)) :=
  Finset.mem_union_left _ (Finset.mem_map_of_mem barEmb (Finset.mem_univ c))
theorem send_mem (c : Dev nD) (k : Fin 4) : sendCell c k ∈ (barCells ∪ scCells : Finset (GSem nD τ sig)) :=
  Finset.mem_union_right _ (Finset.mem_map_of_mem scEmb (Finset.mem_univ (c, (⟨k.val, by omega⟩ : Fin 8))))
theorem recv_mem (c s : Dev nD) : recvCell c s ∈ (barCells ∪ scCells : Finset (GSem nD τ sig)) :=
  Finset.mem_union_right _ (Finset.mem_map.mpr ⟨(c, ⟨4 + s.val, by have h : s.val < 4 := s.isLt; omega⟩), Finset.mem_univ _,
    Prod.ext rfl (osem_recv s)⟩)

/-- What every device may consult: all the cells' invariants under one map of names, round 0 of every barrier cell reached. -/
def records (A : Comm F) (K : GSem nD τ sig → ℕ) : sProp 𝕄 :=
  iprop((bigSep (barCells ∪ scCells) fun g => cellInv ER (talkRd A) (K g) g) ∗ bigSep barCells fun g => reached ER g 0)

instance records_persistent (A : Comm F) (K : GSem nD τ sig → ℕ) : BI.Persistent (records A K) := by unfold records; infer_instance

theorem inv_at (A : Comm F) (K : GSem nD τ sig → ℕ) {g : GSem nD τ sig} (hg : g ∈ (barCells ∪ scCells : Finset (GSem nD τ sig))) :
    (records A K : sProp 𝕄) ⊢ cellInv ER (talkRd A) (K g) g := by
  unfold records
  iintro ⟨H, -⟩
  iapply (show (bigSep (barCells ∪ scCells) fun g => (cellInv ER (talkRd A) (K g) g : sProp 𝕄)) ⊢ cellInv ER (talkRd A) (K g) g from bigSep_elim hg) $$ H
theorem reached_at (A : Comm F) (K : GSem nD τ sig → ℕ) (c : Dev nD) : (records A K : sProp 𝕄) ⊢ reached ER (barCell c) 0 := by
  unfold records
  iintro ⟨-, H⟩
  iapply (show (bigSep barCells fun g => (reached ER g 0 : sProp 𝕄)) ⊢ reached ER (barCell c) 0 from bigSep_elim (Finset.mem_map_of_mem barEmb (Finset.mem_univ c))) $$ H

/-- The tokens of the duties device `c` pays: its peers' barrier cells', its peers' receive cells', its own send cells'. -/
def payToks (c : Dev nD) : sProp 𝕄 :=
  iprop((dutyTok ER (barCell (pk 1 c)) 0 c ∗ dutyTok ER (barCell (pk 2 c)) 0 c ∗ dutyTok ER (barCell (pk 3 c)) 0 c)
    ∗ (dutyTok ER (recvCell (pk 1 c) c) 0 0 ∗ dutyTok ER (recvCell (pk 2 c) c) 0 0 ∗ dutyTok ER (recvCell (pk 3 c) c) 0 0)
    ∗ (dutyTok ER (sendCell c 1) 0 0 ∗ dutyTok ER (sendCell c 2) 0 0 ∗ dutyTok ER (sendCell c 3) 0 0))

/-- The credits device `c` waits with. -/
def credits (c : Dev nD) : sProp 𝕄 :=
  iprop(cred (tallyAt (barCell c) () 3) ∗ cred (tallyAt (recvCell c (pk 1 c)) () N) ∗ cred (tallyAt (recvCell c (pk 2 c)) () N)
    ∗ cred (tallyAt (recvCell c (pk 3 c)) () N))

/-- The position and the round reached on an open cell. -/
def openAt (g : GSem nD τ sig) : sProp 𝕄 := iprop(atPos ER g 0 ∅ 0 ∗ reached ER g 0)

/-- What a device carries from launch to the exchange. -/
def ghost (A : Comm F) (K : GSem nD τ sig → ℕ) (c : Dev nD) : sProp 𝕄 :=
  iprop(records A K ∗ atPos ER (barCell c) 0 ∅ 0
    ∗ (openTok ER (sendCell c 1) ∗ openTok ER (sendCell c 2) ∗ openTok ER (sendCell c 3))
    ∗ (openTok ER (recvCell c (pk 1 c)) ∗ openTok ER (recvCell c (pk 2 c)) ∗ openTok ER (recvCell c (pk 3 c)))
    ∗ payToks c)

/-- The same with the three send and the three receive cells open. -/
def opened (A : Comm F) (K : GSem nD τ sig → ℕ) (c : Dev nD) : sProp 𝕄 :=
  iprop(records A K ∗ atPos ER (barCell c) 0 ∅ 0
    ∗ (openAt (sendCell c 1) ∗ openAt (sendCell c 2) ∗ openAt (sendCell c 3))
    ∗ (openAt (recvCell c (pk 1 c)) ∗ openAt (recvCell c (pk 2 c)) ∗ openAt (recvCell c (pk 3 c)))
    ∗ payToks c)

theorem close (A : Comm F) (κ : ℕ) (g : GSem nD τ sig) :
    iprop(cellInv ER (talkRd A) κ g ∗ atPos ER g (0 + 1) ∅ 0) ⊢ (|={Set.univ}=> semVal g 0 : sProp 𝕄) :=
  Rounds.cell_close ER (talkRd A) (Set.mem_univ κ) id (duties_later A g)

/-! ## The steps on a slot -/

/-- Slot `s` read as the loads read it. -/
def slab (A : Comm F) (s : Dev nD) : Vec F S1x16x1024 .f32 :=
  (commM.access (Rect.unit (s := S4x16x1024) (k1_off4 s) S1x16x1024.size (k1_off4_inb s))).read (Elt F) A

theorem access_set (r : Rect S4x16x1024) : (commM.access r).set = r.set := View.set_slice_whole cc1_scratch0 r

/-- A load of slot `s`, its offsets spelt as the program spells them. -/
theorem wp_load_slot (c s : Dev nD) (q : PosShare TreeShare) (f : Comm F) (o : Fin 3 → ℕ) (ho : o = k1_off4 s)
    {inb : ∀ a, o a + S1x16x1024.size a ≤ S4x16x1024.size a}
    {hl : commM.view.LoadsAt (Rect.unit (s := S4x16x1024) o S1x16x1024.size inb).toLoadRect}
    {α : Type} {Q : α → sProp 𝕄} {k : Vec F S1x16x1024 .f32 → Prog (TpuEff nD τ sig (Elt F) Λ₀ .tc) α} :
    (slotAt c s q f : sProp 𝕄)
      ⊢ iprop((slotAt c s q f -∗ wp frame (wpE (defs₀ (F := F)) 𝒱₀ (c : Thread nD τ) none) Set.univ (k (slab f s)) Q)
          -∗ wp frame (wpE (defs₀ (F := F)) 𝒱₀ (c : Thread nD τ) none) Set.univ
              (.op (.load commM (Rect.unit (s := S4x16x1024) o S1x16x1024.size inb).toLoadRect hl) k) Q) := by
  subst ho
  exact wp_load_rect 𝒱₀ (c : Thread nD τ) none Set.univ (m := commM) (r := Rect.unit (s := S4x16x1024) (k1_off4 s) S1x16x1024.size inb)
    (S := slotSet s) (q := q) (f := f) (by rw [access_set]; exact Finset.Subset.refl _)

/-- The copy of the own slot to the device `k` places on: it pays that device's receive cell with the slot rewritten, the
    own send cell `k` with the share lent. -/
theorem wp_send_slot (A : Comm F) (k : Fin 4) (c p : Dev nD) (hp : p = pk k c) (gS gR : DmaSem sig) (hS : gS = sS k) (hR : gR = rS c) (κ₁ κ₂ : ℕ)
    {hsc : (slotM c : Memref sig (Dev.tc p : Thread nD τ).2.kind .vmem S16x1024 .f32).view.ref.isScScratch = false}
    {hsrc : (slotM c : Memref sig .tc .vmem S16x1024 .f32).view.WordExact} {hdst : (slotM c : Memref sig .tc .vmem S16x1024 .f32).view.WordExact}
    {hsem : DmaTarget.Typed .vmem (.dma gR) (.remote (Dev.tc p : Thread nD τ) (slotM c : Memref sig .tc .vmem S16x1024 .f32) (.dma gS) hsc)}
    {α : Type} {Q : α → sProp 𝕄} {kk : PUnit → Prog (TpuEff nD τ sig (Elt F) Λ₀ .tc) α} (fd : Comm F)
    (O O' : CellTallies nD τ sig Unit) (hO : O' = O + oweR k c) (W : Waits sig Unit) :
    iprop(cellInv ER (talkRd A) κ₁ (sendCell c k) ∗ cellInv ER (talkRd A) κ₂ (recvCell (pk k c) c)
        ∗ slotAt c c (shr k) A ∗ slotAt (pk k c) c fullShare fd ∗ owes (c : Thread nD τ) O' W
        ∗ dutyTok ER (sendCell c k) 0 0 ∗ reached ER (sendCell c k) 0 ∗ dutyTok ER (recvCell (pk k c) c) 0 0 ∗ reached ER (recvCell (pk k c) c) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM c) (.remote (Dev.tc p : Thread nD τ) (slotM c) (.dma gS) hsc) (.dma gR) hsrc hdst hsem) kk) Q) := by
  subst hp hS hR
  have h := Rounds.wp_send_pointsTo (Q := Q) 𝒱₀ ER (talkRd A) (defs := defs₀ (F := F)) (Γ := []) (c : Thread nD τ) none (c' := (pk k c : Thread nD τ)) (src := slotM c) (dst := slotM c)
    (hsc := hsc) (hsrc := hsrc) (hdst := hdst) (hsem := hsem) (k := kk)
    (sS := .dma (sS k)) (sem := .dma (rS c)) (q := shr k) (fs := A) (κ₁ := κ₁) (κ₂ := κ₂)
    (r₁ := 0) (r₂ := 0) (d₁ := 0) (d₂ := 0) (fd := fd)
    (by rw [duties_send]; exact Finset.mem_singleton_self _) (by rw [duties_recv]; exact Finset.mem_singleton_self _)
    () () N rfl (amount_send A c k 0) (amount_recv A (pk k c) c 0) O hO (W := W)
    (by rw [payload_send, slotM_set]; exact BI.Entails.refl _)
    (by
      rw [payload_recv]; unfold recvPay; rw [slotM_set]
      exact Entails.of_eq (pointsTo_congr fun i hi => landed_eq c fd A i hi)) (Es := Set.univ)
  rw [slotM_set] at h
  exact h

/-- The view of a slot at offsets given in any spelling. -/
abbrev slotAtOff (o : Fin 3 → ℕ) (i : ∀ a, o a + S1x16x1024.size a ≤ S4x16x1024.size a) : Memref sig .tc .vmem S16x1024 .f32 :=
  (commM.slice (Rect.unit (s := S4x16x1024) o S1x16x1024.size i) (fun _ => rfl)).squeeze S16x1024 squeezes_S1x16x1024_S16x1024

/-- A wait on a send or receive cell of `c`, nothing owed: the cell's payload comes. -/
theorem wp_wait_slot (A : Comm F) (c : Dev nD) (q : DmaSem sig) (X : sProp 𝕄) (κ : ℕ) (W : Waits sig Unit)
    (hexp : (talkRd (F := F) A).expect ((c : Thread nD τ), .dma q) 0 = N)
    (hrest : bigSep ((talkRd (F := F) A).duties ((c : Thread nD τ), .dma q) 0 \ ∅) (fun d => (talkRd (F := F) A).payload ((c : Thread nD τ), .dma q) 0 d) = X)
    {o₁ o₂ : Fin 3 → ℕ} {i₁ : ∀ a, o₁ a + S1x16x1024.size a ≤ S4x16x1024.size a} {i₂ : ∀ a, o₂ a + S1x16x1024.size a ≤ S4x16x1024.size a}
    {hsrc : (slotAtOff o₁ i₁).view.WordExact} {hdst : (slotAtOff o₂ i₂).view.WordExact}
    {α : Type} {Q : α → sProp 𝕄} {k : PUnit → Prog (TpuEff nD τ sig (Elt F) Λ₀ .tc) α} :
    iprop(cellInv ER (talkRd A) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) (0 + 1) ∅ 0
            ∗ X) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (slotAtOff o₁ i₁) (slotAtOff o₂ i₂) hsrc hdst) k) Q) := by
  iintro ⟨#HI, Hc, HO, Hat⟩ Hk
  iapply (Rounds.wp_wait_rest_token 𝒱₀ ER (talkRd A) (c : Thread nD τ) none (κ := κ)
      (wpE_waitDma2_eq 𝒱₀ (c : Thread nD τ) none Set.univ) (Set.mem_univ _) () (O := 0) (W := W) (R := 0) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hrest); iexact Hpay

end Cert.KernelIdeal.Norm

end
-- ==== Proof.Norm.TalkRun.lean ====
/- The exchange's body run once on a symbolic device. -/
module

public import proofs.«01_k».proof.Proof.Norm.Talk

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result of the exchange -/

/-- Device `c`'s rows of means over its rows of reciprocal deviations, from the four slots in the order they are added. -/
def mr (A : Comm F) (c : Dev nD) : FVec F S16x1024 .f32 :=
  k1_pay5 (k1_pay4 (slab A c) (slab A (pk 3 c))) (slab A (pk 2 c)) (slab A (pk 1 c))

abbrev outM : Memref sig .tc .vmem S8192x2 .bf16 := Memref.whole cc1_stg2_0

/-- The eight stores of the result, the last first: rows `1024 b` on, mean and reciprocal deviation of row block `b`. -/
def outPieces (X : FVec F S16x1024 .f32) : List (View.Piece (Elt F) S8192x2 .bf16) :=
  [⟨Rect.unit (s := S8192x2) ![7168, 0] S1024x2.size inb_S8192x2_S1024x2_7168_0, k1_pay15 X k1_pay6⟩,
   ⟨Rect.unit (s := S8192x2) ![6144, 0] S1024x2.size inb_S8192x2_S1024x2_6144_0, k1_pay14 X k1_pay6⟩,
   ⟨Rect.unit (s := S8192x2) ![5120, 0] S1024x2.size inb_S8192x2_S1024x2_5120_0, k1_pay13 X k1_pay6⟩,
   ⟨Rect.unit (s := S8192x2) ![4096, 0] S1024x2.size inb_S8192x2_S1024x2_4096_0, k1_pay12 X k1_pay6⟩,
   ⟨Rect.unit (s := S8192x2) ![3072, 0] S1024x2.size inb_S8192x2_S1024x2_3072_0, k1_pay11 X k1_pay6⟩,
   ⟨Rect.unit (s := S8192x2) ![2048, 0] S1024x2.size inb_S8192x2_S1024x2_2048_0, k1_pay10 X k1_pay6⟩,
   ⟨Rect.unit (s := S8192x2) ![1024, 0] S1024x2.size inb_S8192x2_S1024x2_1024_0, k1_pay9 X k1_pay6⟩,
   ⟨Rect.unit (s := S8192x2) ![0, 0] S1024x2.size inb_S8192x2_S1024x2_0_0, k1_pay8 X k1_pay6⟩]

theorem outPieces_cover (X : FVec F S16x1024 .f32) : ∀ y : S8192x2.Idx, ∃ p ∈ outPieces X, y ∈ p.1.set :=
  View.cover_of_tiled (outPieces X) ![1024, 2] rfl

/-- The statistics table the exchange leaves. -/
def outC (A : Comm F) (c : Dev nD) : FVec F S8192x2 .bf16 :=
  outM.view.writes (Elt F) (fun _ => Scalar.ofBits .bf16 0#16) (outPieces (mr A c))

theorem out_writes (A : Comm F) (c : Dev nD) (f : (cc1_stg2_0 : Ref sig .tc).ty.Contents (Elt F)) :
    outM.view.writes (Elt F) f (outPieces (mr A c)) = outC A c := by
  have h := View.read_writes_of_cover outM.view f outM.view (fun _ => Scalar.ofBits .bf16 0#16) (outPieces (mr A c)) (outPieces_cover _)
  have key (g : (cc1_stg2_0 : Ref sig .tc).ty.Contents (Elt F)) : outM.view.read (Elt F) g = g := View.read_whole cc1_stg2_0 g
  unfold outC
  exact (key _).symm.trans (h.trans (key _))

/-! ## The run -/

abbrev pt (c : Dev nD) (b : Ref sig .tc) (f : b.ty.Contents (Elt F)) : sProp 𝕄 := ((c : Thread nD τ).loc b) ↦{fullShare} f

def talkPre (s q : Dev nD → FVec F S8x1024 .f32) (K : GSem nD τ sig → ℕ) (c : Dev nD) (W : Waits sig Unit) : sProp 𝕄 :=
  iprop(opened (commOf s q) K c ∗ credits c ∗ levAts L lv ∗ (∃ f, pt c cc1_scratch0 f)
    ∗ pt c cc1_stg0_0 (s c) ∗ pt c cc1_stg1_0 (q c) ∗ (∃ f, pt c cc1_stg2_0 f) ∗ owes (c : Thread nD τ) (O₀ c) W)

/-- Every open cell's counter back at zero, the communication buffer back, the inputs back, the result at the table. -/
def talkPost (s q : Dev nD → FVec F S8x1024 .f32) (c : Dev nD) : sProp 𝕄 :=
  iprop(semVal (barCell c) 0 ∗ (semVal (sendCell c 1) 0 ∗ semVal (sendCell c 2) 0 ∗ semVal (sendCell c 3) 0)
    ∗ (semVal (recvCell c (pk 1 c)) 0 ∗ semVal (recvCell c (pk 2 c)) 0 ∗ semVal (recvCell c (pk 3 c)) 0)
    ∗ (∃ f, pt c cc1_scratch0 f) ∗ pt c cc1_stg0_0 (s c) ∗ pt c cc1_stg1_0 (q c) ∗ pt c cc1_stg2_0 (outC (commOf s q) c)
    ∗ ∃ W, owes (c : Thread nD τ) (0 : CellTallies nD τ sig Unit) W)

theorem hz2 : (![0, 0] : Fin 2 → Nat) = fun _ => 0 := by decide

theorem read_s (f : (cc1_stg0_0 : Ref sig .tc).ty.Contents (Elt F)) :
    (Memref.whole cc1_stg0_0).view.readAt (Elt F) (Rect.unit (s := S8x1024) ![0, 0] S8x1024.size inb_S8x1024_S8x1024_0_0).toLoadRect f = f :=
  Memref.readAt_unit_zero (Elt F) cc1_stg0_0 hz2 _ _
theorem read_q (f : (cc1_stg1_0 : Ref sig .tc).ty.Contents (Elt F)) :
    (Memref.whole cc1_stg1_0).view.readAt (Elt F) (Rect.unit (s := S8x1024) ![0, 0] S8x1024.size inb_S8x1024_S8x1024_0_0).toLoadRect f = f :=
  Memref.readAt_unit_zero (Elt F) cc1_stg1_0 hz2 _ _

theorem bar_sem_eq : (SemArray.scalar (sig.barrier 0 rfl) : Sems sig S_).sem = barrier0 := rfl

theorem off5_eq (c : Dev nD) : k1_off5 c = k1_off4 c := by rw [k1_off5_eq, k1_off4_eq]
theorem off8_3 (c : Dev nD) : k1_off8 c 1#32 = k1_off4 (pk 3 c) := (k1_off8_eq c 0).trans (by rw [k1_off4_eq]; rfl)
theorem off8_2 (c : Dev nD) : k1_off8 c 2#32 = k1_off4 (pk 2 c) := (k1_off8_eq c 1).trans (by rw [k1_off4_eq]; rfl)
theorem off8_1 (c : Dev nD) : k1_off8 c 3#32 = k1_off4 (pk 1 c) := (k1_off8_eq c 2).trans (by rw [k1_off4_eq]; rfl)

/-- One store of the result, with the load before it that reads what nothing uses. -/
theorem wp_out_step (c : Dev nD) (f : (cc1_stg2_0 : Ref sig .tc).ty.Contents (Elt F)) (L : List (View.Piece (Elt F) S8192x2 .bf16))
    (o : Fin 2 → ℕ) (inb : ∀ a, o a + S1024x2.size a ≤ S8192x2.size a) (w : FVec F S1024x2 .bf16)
    {hl : outM.view.LoadsAt (Rect.unit (s := S8192x2) o S1024x2.size inb).toLoadRect}
    {hx : (outM.access (Rect.unit (s := S8192x2) o S1024x2.size inb)).Stores Finset.univ}
    {hm : (Finset.univ : Finset S1024x2.Idx) = Finset.univ ∨ ∀ a, (Rect.unit (s := S8192x2) o S1024x2.size inb).stride a = 1}
    {α : Type} {Q : α → sProp 𝕄} {k : PUnit → Prog (TpuEff nD τ sig (Elt F) Λ₀ .tc) α} :
    (pt c cc1_stg2_0 (outM.view.writes (Elt F) f L) : sProp 𝕄)
      ⊢ iprop((pt c cc1_stg2_0 (outM.view.writes (Elt F) f (⟨Rect.unit (s := S8192x2) o S1024x2.size inb, w⟩ :: L))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load outM (Rect.unit (s := S8192x2) o S1024x2.size inb).toLoadRect hl)
                fun _ => .op (.store outM (Rect.unit (s := S8192x2) o S1024x2.size inb) w Finset.univ hx hm) k) Q) := by
  iintro Ho Hk
  iapply (wp_load 𝒱₀ (c : Thread nD τ) none Set.univ (m := outM) (Finset.subset_univ _)) $$ Ho
  iintro Ho
  iapply (wp_store_writes 𝒱₀ (c : Thread nD τ) none Set.univ (m := outM) (f := f) (L := L) (w := w)
    (r := Rect.unit (s := S8192x2) o S1024x2.size inb) (S := Finset.univ) (Finset.subset_univ _)) $$ Ho
  iintro Ho
  iapply Hk; iexact Ho

set_option maxHeartbeats 400000 in
theorem talkRun (s q : Dev nD → FVec F S8x1024 .f32) (K : GSem nD τ sig → ℕ) (c : Dev nD) (W : Waits sig Unit) (Kt : PUnit → sProp 𝕄) :
    iprop(talkPre s q K c W ∗ (talkPost s q c -∗ Kt ⟨⟩))
      ⊢ wp frame (wpE (defs₀ (F := F)) 𝒱₀ c none) Set.univ
          (cc1_body (Memref.whole cc1_stg0_0) (Memref.isWhole_whole _) (Memref.whole cc1_stg1_0) (Memref.isWhole_whole _)
            (Memref.whole cc1_stg2_0) (Memref.isWhole_whole _) (Memref.whole cc1_scratch0) (Memref.isWhole_whole _) cc1_scratch1 cc1_scratch2) Kt := by
  simp only [cc1_body_eq_skeleton]; unfold cc1_body_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  simp only [semSignalWord, semWaitWord, Prog.lift, Prog.bind_op, Prog.bind_ret, Prog.pure_eq_ret, Prog.bind_assoc, wp_deviceId]
  simp only [bar_sem_eq, send1_eq, send2_eq, send3_eq, recv_own_eq, recv3_eq, recv2_eq, recv1_eq]
  simp only [dev1_eq c, dev2_eq c, dev3_eq c]
  unfold talkPre opened openAt payToks credits
  iintro ⟨⟨⟨#HR, HatB, ⟨⟨HatS1, #HrS1⟩, ⟨HatS2, #HrS2⟩, ⟨HatS3, #HrS3⟩⟩, ⟨⟨HatV1, #HrV1⟩, ⟨HatV2, #HrV2⟩, ⟨HatV3, #HrV3⟩⟩,
      ⟨⟨HtB1, HtB2, HtB3⟩, ⟨HtR1, HtR2, HtR3⟩, ⟨HtS1, HtS2, HtS3⟩⟩⟩,
    ⟨HcB, HcV1, HcV2, HcV3⟩, #Hlev, ⟨%f0, Hcm⟩, Hs, Hq, ⟨%f2, Ho⟩, HO⟩, Hk⟩
  have hdev4 := dev4_eq c; have hdev5 := dev5_eq c; have hdev6 := dev6_eq c
  -- the communication buffer in its four slots, the own first
  ihave Hsl := (Entails.of_eq (comm_split c c f0)) $$ Hcm
  icases Hsl with ⟨Hown, Hp1, Hp2, Hp3⟩
  -- the three signals: each peer's barrier cell gets the slot it will fill
  iapply (Rounds.wp_signal 𝒱₀ ER (talkRd (commOf s q)) (c : Thread nD τ) none (dst := (pk 1 c : Thread nD τ)) (sem := barrier0) (r := 0) (d := c) (κ := K (barCell (pk 1 c)))
      (by rw [duties_bar]; exact Finset.mem_erase.mpr ⟨ne_pk 1 (by decide) c, Finset.mem_univ _⟩) (amount_bar (commOf s q) (pk 1 c) c) () (OR c + oweB 3 c + oweB 2 c) rfl)
    $$ [HO HtB1 Hp1]
  · isplitr; · iapply (inv_at (commOf s q) K (bar_mem (pk 1 c))); iexact HR
    isplitl [HO]; · iexact HO
    isplitl [HtB1]; · iexact HtB1
    isplitl [Hp1]
    · rw [payload_bar]; unfold barPay
      isplitl [Hp1]; · iexists f0; iexact Hp1
      iexact HrV1
    · iapply (reached_at (commOf s q) K (pk 1 c)); iexact HR
  iintro HO
  iapply (Rounds.wp_signal 𝒱₀ ER (talkRd (commOf s q)) (c : Thread nD τ) none (dst := (pk 2 c : Thread nD τ)) (sem := barrier0) (r := 0) (d := c) (κ := K (barCell (pk 2 c)))
      (by rw [duties_bar]; exact Finset.mem_erase.mpr ⟨ne_pk 2 (by decide) c, Finset.mem_univ _⟩) (amount_bar (commOf s q) (pk 2 c) c) () (OR c + oweB 3 c) rfl)
    $$ [HO HtB2 Hp2]
  · isplitr; · iapply (inv_at (commOf s q) K (bar_mem (pk 2 c))); iexact HR
    isplitl [HO]; · iexact HO
    isplitl [HtB2]; · iexact HtB2
    isplitl [Hp2]
    · rw [payload_bar]; unfold barPay
      isplitl [Hp2]; · iexists f0; iexact Hp2
      iexact HrV2
    · iapply (reached_at (commOf s q) K (pk 2 c)); iexact HR
  iintro HO
  iapply (Rounds.wp_signal 𝒱₀ ER (talkRd (commOf s q)) (c : Thread nD τ) none (dst := (pk 3 c : Thread nD τ)) (sem := barrier0) (r := 0) (d := c) (κ := K (barCell (pk 3 c)))
      (by rw [duties_bar]; exact Finset.mem_erase.mpr ⟨ne_pk 3 (by decide) c, Finset.mem_univ _⟩) (amount_bar (commOf s q) (pk 3 c) c) () (OR c) rfl)
    $$ [HO HtB3 Hp3]
  · isplitr; · iapply (inv_at (commOf s q) K (bar_mem (pk 3 c))); iexact HR
    isplitl [HO]; · iexact HO
    isplitl [HtB3]; · iexact HtB3
    isplitl [Hp3]
    · rw [payload_bar]; unfold barPay
      isplitl [Hp3]; · iexists f0; iexact Hp3
      iexact HrV3
    · iapply (reached_at (commOf s q) K (pk 3 c)); iexact HR
  iintro HO
  -- the barrier's three units: each peer's slot for this device
  iapply (Rounds.wp_wait_rest_token 𝒱₀ ER (talkRd (commOf s q)) (c : Thread nD τ) none (κ := K (barCell c))
      (wpE_semWait_eq 𝒱₀ (c : Thread nD τ) none Set.univ) (Set.mem_univ _) () (O := OR c) (W := W) (R := 0) (m := 0) (T := ∅)
      ((Nat.zero_add 3).trans (expect_bar (commOf s q) c).symm)) $$ [HcB HO HatB]
  · isplitr; · iapply (inv_at (commOf s q) K (bar_mem c)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar (commOf s q) c)) $$ Hpay
  unfold barPay
  icases Hp with ⟨⟨⟨%f1, Hd1⟩, #HrD1⟩, ⟨⟨%f2', Hd2⟩, #HrD2⟩, ⟨⟨%f3, Hd3⟩, #HrD3⟩⟩
  -- the own slot written in two parts
  iapply (wp_load 𝒱₀ (c : Thread nD τ) none Set.univ (m := Memref.whole cc1_stg0_0) (Finset.subset_univ _)) $$ Hs
  iintro Hs
  rw [read_s]
  iapply (wp_load_rect 𝒱₀ (c : Thread nD τ) none Set.univ (m := commM) (r := rectS c) (S := slotSet c)
      (by rw [access_set]; exact rectS_sub c)) $$ Hown
  iintro Hown
  iapply (wp_store_writes₀ 𝒱₀ (c : Thread nD τ) none Set.univ (m := commM) (r := rectS c) (w := k1_pay1 (s c)) (f := f0) (S := slotSet c)
      (by rw [access_set]; exact rectS_sub c)) $$ Hown
  iintro Hown
  iapply (wp_load 𝒱₀ (c : Thread nD τ) none Set.univ (m := Memref.whole cc1_stg1_0) (Finset.subset_univ _)) $$ Hq
  iintro Hq
  rw [read_q]
  iapply (wp_load_rect 𝒱₀ (c : Thread nD τ) none Set.univ (m := commM) (r := rectQ c) (S := slotSet c)
      (by rw [access_set]; exact rectQ_sub c)) $$ Hown
  iintro Hown
  iapply (wp_store_writes 𝒱₀ (c : Thread nD τ) none Set.univ (m := commM) (r := rectQ c) (w := k1_pay3 (k1_pay2 (q c))) (f := f0) (S := slotSet c)
      (L := [⟨rectS c, k1_pay1 (s c)⟩]) (by rw [access_set]; exact rectQ_sub c)) $$ Hown
  iintro Hown
  ihave Hown := (Entails.of_eq (pointsTo_congr (stored_eq s q c f0))) $$ Hown
  ihave Hsh := (show (slotAt c c fullShare (commOf s q) : sProp 𝕄) ⊢ _ from (slot_shares c c (commOf s q)).1) $$ Hown
  icases Hsh with ⟨⟨Hq0, Hq1⟩, ⟨Hq2, Hq3⟩⟩
  -- the three copies
  iapply (wp_send_slot (commOf s q) 1 c _ hdev4 _ _ rfl rfl (K (sendCell c 1)) (K (recvCell (pk 1 c) c)) f1 (oweR 3 c + oweR 2 c) (OR c) rfl _)
    $$ [Hq1 Hd1 HO HtS1 HtR1]
  · isplitr; · iapply (inv_at (commOf s q) K (send_mem c 1)); iexact HR
    isplitr; · iapply (inv_at (commOf s q) K (recv_mem (pk 1 c) c)); iexact HR
    isplitl [Hq1]; · iexact Hq1
    isplitl [Hd1]; · iexact Hd1
    isplitl [HO]; · iexact HO
    isplitl [HtS1]; · iexact HtS1
    isplitr; · iexact HrS1
    isplitl [HtR1]; · iexact HtR1
    iexact HrD1
  iintro ⟨HcS1, HO⟩
  iapply (wp_send_slot (commOf s q) 2 c _ hdev5 _ _ rfl rfl (K (sendCell c 2)) (K (recvCell (pk 2 c) c)) f2' (oweR 3 c) (oweR 3 c + oweR 2 c) rfl _)
    $$ [Hq2 Hd2 HO HtS2 HtR2]
  · isplitr; · iapply (inv_at (commOf s q) K (send_mem c 2)); iexact HR
    isplitr; · iapply (inv_at (commOf s q) K (recv_mem (pk 2 c) c)); iexact HR
    isplitl [Hq2]; · iexact Hq2
    isplitl [Hd2]; · iexact Hd2
    isplitl [HO]; · iexact HO
    isplitl [HtS2]; · iexact HtS2
    isplitr; · iexact HrS2
    isplitl [HtR2]; · iexact HtR2
    iexact HrD2
  iintro ⟨HcS2, HO⟩
  iapply (wp_send_slot (commOf s q) 3 c _ hdev6 _ _ rfl rfl (K (sendCell c 3)) (K (recvCell (pk 3 c) c)) f3 0 (oweR 3 c) (zero_add _).symm _)
    $$ [Hq3 Hd3 HO HtS3 HtR3]
  · isplitr; · iapply (inv_at (commOf s q) K (send_mem c 3)); iexact HR
    isplitr; · iapply (inv_at (commOf s q) K (recv_mem (pk 3 c) c)); iexact HR
    isplitl [Hq3]; · iexact Hq3
    isplitl [Hd3]; · iexact Hd3
    isplitl [HO]; · iexact HO
    isplitl [HtS3]; · iexact HtS3
    isplitr; · iexact HrS3
    isplitl [HtR3]; · iexact HtR3
    iexact HrD3
  iintro ⟨HcS3, HO⟩
  -- the own slot read on the share kept, then each peer's as it lands
  iapply (wp_load_slot c c (shr 0) (commOf s q) _ (off5_eq c)) $$ Hq0
  iintro Hq0
  iapply (wp_wait_slot (commOf s q) c (rS (pk 3 c)) _ (K (recvCell c (pk 3 c))) _ (expect_recv (commOf s q) c (pk 3 c)) (rest_recv (commOf s q) c (pk 3 c))) $$ [HcV3 HO HatV3]
  · isplitr; · iapply (inv_at (commOf s q) K (recv_mem c (pk 3 c))); iexact HR
    isplitl [HcV3]; · iexact HcV3
    isplitl [HO]; · iexact HO
    iexact HatV3
  iintro ⟨HO, HatV3, Hp3⟩
  iapply (wp_load_slot c (pk 3 c) fullShare (commOf s q) _ (off8_3 c)) $$ Hp3
  iintro Hp3
  iapply (wp_wait_slot (commOf s q) c (rS (pk 2 c)) _ (K (recvCell c (pk 2 c))) _ (expect_recv (commOf s q) c (pk 2 c)) (rest_recv (commOf s q) c (pk 2 c))) $$ [HcV2 HO HatV2]
  · isplitr; · iapply (inv_at (commOf s q) K (recv_mem c (pk 2 c))); iexact HR
    isplitl [HcV2]; · iexact HcV2
    isplitl [HO]; · iexact HO
    iexact HatV2
  iintro ⟨HO, HatV2, Hp2⟩
  iapply (wp_load_slot c (pk 2 c) fullShare (commOf s q) _ (off8_2 c)) $$ Hp2
  iintro Hp2
  iapply (wp_wait_slot (commOf s q) c (rS (pk 1 c)) _ (K (recvCell c (pk 1 c))) _ (expect_recv (commOf s q) c (pk 1 c)) (rest_recv (commOf s q) c (pk 1 c))) $$ [HcV1 HO HatV1]
  · isplitr; · iapply (inv_at (commOf s q) K (recv_mem c (pk 1 c))); iexact HR
    isplitl [HcV1]; · iexact HcV1
    isplitl [HO]; · iexact HO
    iexact HatV1
  iintro ⟨HO, HatV1, Hp1⟩
  iapply (wp_load_slot c (pk 1 c) fullShare (commOf s q) _ (off8_1 c)) $$ Hp1
  iintro Hp1
  -- the eight stores of the result
  ihave Ho := (show (pt c cc1_stg2_0 f2 : sProp 𝕄) ⊢ pt c cc1_stg2_0 (outM.view.writes (Elt F) f2 []) from BI.Entails.refl _) $$ Ho
  iapply (wp_out_step c f2 _ ![0, 0] inb_S8192x2_S1024x2_0_0 (k1_pay8 (mr (commOf s q) c) k1_pay6)) $$ Ho
  iintro Ho
  iapply (wp_out_step c f2 _ ![1024, 0] inb_S8192x2_S1024x2_1024_0 (k1_pay9 (mr (commOf s q) c) k1_pay6)) $$ Ho
  iintro Ho
  iapply (wp_out_step c f2 _ ![2048, 0] inb_S8192x2_S1024x2_2048_0 (k1_pay10 (mr (commOf s q) c) k1_pay6)) $$ Ho
  iintro Ho
  iapply (wp_out_step c f2 _ ![3072, 0] inb_S8192x2_S1024x2_3072_0 (k1_pay11 (mr (commOf s q) c) k1_pay6)) $$ Ho
  iintro Ho
  iapply (wp_out_step c f2 _ ![4096, 0] inb_S8192x2_S1024x2_4096_0 (k1_pay12 (mr (commOf s q) c) k1_pay6)) $$ Ho
  iintro Ho
  iapply (wp_out_step c f2 _ ![5120, 0] inb_S8192x2_S1024x2_5120_0 (k1_pay13 (mr (commOf s q) c) k1_pay6)) $$ Ho
  iintro Ho
  iapply (wp_out_step c f2 _ ![6144, 0] inb_S8192x2_S1024x2_6144_0 (k1_pay14 (mr (commOf s q) c) k1_pay6)) $$ Ho
  iintro Ho
  iapply (wp_out_step c f2 _ ![7168, 0] inb_S8192x2_S1024x2_7168_0 (k1_pay15 (mr (commOf s q) c) k1_pay6)) $$ Ho
  iintro Ho
  have hout := out_writes (commOf s q) c f2
  unfold outPieces at hout
  ihave Ho := (Entails.of_eq (congrArg (fun g => (pt c cc1_stg2_0 g : sProp 𝕄)) hout)) $$ Ho
  -- the three sends' completion: the shares come back
  iapply (wp_wait_slot (commOf s q) c (sS 1) _ (K (sendCell c 1)) _ (expect_send (commOf s q) c 1) (rest_send (commOf s q) c 1)) $$ [HcS1 HO HatS1]
  · isplitr; · iapply (inv_at (commOf s q) K (send_mem c 1)); iexact HR
    isplitl [HcS1]; · iexact HcS1
    isplitl [HO]; · iexact HO
    iexact HatS1
  iintro ⟨HO, HatS1, Hq1⟩
  iapply (wp_wait_slot (commOf s q) c (sS 2) _ (K (sendCell c 2)) _ (expect_send (commOf s q) c 2) (rest_send (commOf s q) c 2)) $$ [HcS2 HO HatS2]
  · isplitr; · iapply (inv_at (commOf s q) K (send_mem c 2)); iexact HR
    isplitl [HcS2]; · iexact HcS2
    isplitl [HO]; · iexact HO
    iexact HatS2
  iintro ⟨HO, HatS2, Hq2⟩
  iapply (wp_wait_slot (commOf s q) c (sS 3) _ (K (sendCell c 3)) _ (expect_send (commOf s q) c 3) (rest_send (commOf s q) c 3)) $$ [HcS3 HO HatS3]
  · isplitr; · iapply (inv_at (commOf s q) K (send_mem c 3)); iexact HR
    isplitl [HcS3]; · iexact HcS3
    isplitl [HO]; · iexact HO
    iexact HatS3
  iintro ⟨HO, HatS3, Hq3⟩
  rw [wp_ret]
  -- every cell closed at zero
  imod (close (commOf s q) (K (barCell c)) (barCell c)) $$ [HatB] with Hb0
  · isplitr; · iapply (inv_at (commOf s q) K (bar_mem c)); iexact HR
    iexact HatB
  imod (close (commOf s q) (K (sendCell c 1)) (sendCell c 1)) $$ [HatS1] with Hs1
  · isplitr; · iapply (inv_at (commOf s q) K (send_mem c 1)); iexact HR
    iexact HatS1
  imod (close (commOf s q) (K (sendCell c 2)) (sendCell c 2)) $$ [HatS2] with Hs2
  · isplitr; · iapply (inv_at (commOf s q) K (send_mem c 2)); iexact HR
    iexact HatS2
  imod (close (commOf s q) (K (sendCell c 3)) (sendCell c 3)) $$ [HatS3] with Hs3
  · isplitr; · iapply (inv_at (commOf s q) K (send_mem c 3)); iexact HR
    iexact HatS3
  imod (close (commOf s q) (K (recvCell c (pk 1 c))) (recvCell c (pk 1 c))) $$ [HatV1] with Hv1
  · isplitr; · iapply (inv_at (commOf s q) K (recv_mem c (pk 1 c))); iexact HR
    iexact HatV1
  imod (close (commOf s q) (K (recvCell c (pk 2 c))) (recvCell c (pk 2 c))) $$ [HatV2] with Hv2
  · isplitr; · iapply (inv_at (commOf s q) K (recv_mem c (pk 2 c))); iexact HR
    iexact HatV2
  imod (close (commOf s q) (K (recvCell c (pk 3 c))) (recvCell c (pk 3 c))) $$ [HatV3] with Hv3
  · isplitr; · iapply (inv_at (commOf s q) K (recv_mem c (pk 3 c))); iexact HR
    iexact HatV3
  -- the shares joined, the slots joined
  ihave Hown := (show _ ⊢ (slotAt c c fullShare (commOf s q) : sProp 𝕄) from (slot_shares c c (commOf s q)).2) $$ [Hq0 Hq1 Hq2 Hq3]
  · isplitl [Hq0 Hq1]
    · isplitl [Hq0]; · iexact Hq0
      iexact Hq1
    · isplitl [Hq2]; · iexact Hq2
      iexact Hq3
  ihave Hcm := (Entails.of_eq (comm_split c c (commOf s q)).symm) $$ [Hown Hp1 Hp2 Hp3]
  · isplitl [Hown]; · iexact Hown
    isplitl [Hp1]; · iexact Hp1
    isplitl [Hp2]; · iexact Hp2
    iexact Hp3
  imodintro
  iapply Hk
  unfold talkPost
  isplitl [Hb0]; · iexact Hb0
  isplitl [Hs1 Hs2 Hs3]
  · isplitl [Hs1]; · iexact Hs1
    isplitl [Hs2]; · iexact Hs2
    iexact Hs3
  isplitl [Hv1 Hv2 Hv3]
  · isplitl [Hv1]; · iexact Hv1
    isplitl [Hv2]; · iexact Hv2
    iexact Hv3
  isplitl [Hcm]; · iexists _; iexact Hcm
  isplitl [Hs]; · iexact Hs
  isplitl [Hq]; · iexact Hq
  isplitl [Ho]; · iexact Ho
  iexists _; iexact HO

end Cert.KernelIdeal.Norm

end
-- ==== Proof.Norm.Bodies.lean ====
/- The two streaming bodies, each run once over whole staging memrefs: what they read and what they leave. -/
module

public import proofs.«01_k».proof.Proof.Norm.TalkRun
public import proofs.«01_k».proof.Proof.Gen.KernelIdeal.Points
public import proofs.«01_k».proof.Proof.Gen.KernelIdeal.Skeleton
public import Idealize.ShloMosaic.Lib.Tactic
public import Idealize.ShloMosaic.Lib.ValueIdx
public import Idealize.ShloMosaic.Lib.Pipeline.Value

@[expose] public section

set_option maxRecDepth 16384

noncomputable section

namespace Cert.KernelIdeal.Norm

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `Y` with row `n` replaced by the one row of `w`. -/
def rowSet (n : ℕ) (w : FVec F S1x1024 .f32) (Y : FVec F S8x1024 .f32) : FVec F S8x1024 .f32 :=
  fun i => if (i 0).val = n then w (ix2 0 (i 1)) else Y i

/-- A load of a whole memref reads its contents. -/
theorem readAt_whole {S : Shape} {e : EltTy} (M : Memref sig .tc .vmem S e) {off : Fin S.rank → Nat} (h : off = fun _ => 0)
    (inb : ∀ a, off a + S.size a ≤ S.size a) (f : M.view.ty.Contents (Elt F)) (X : S.Idx → Elt F e) (hf : M.view.read (Elt F) f = X) :
    M.view.readAt (Elt F) (Rect.unit off S.size inb).toLoadRect f = X := by
  subst hf
  exact View.ld_unit_zero h inb (M.view.read (Elt F) f)

/-- A store of a whole memref leaves its payload. -/
theorem read_store_whole {S : Shape} {e : EltTy} (M : Memref sig .tc .vmem S e) {off : Fin S.rank → Nat} (h : off = fun _ => 0)
    (inb : ∀ a, off a + S.size a ≤ S.size a) (f : M.view.ty.Contents (Elt F)) (w : S.Idx → Elt F e) :
    M.view.read (Elt F) ((M.access (Rect.unit off S.size inb)).write (Elt F) f w Finset.univ) = w := by
  subst h
  funext y
  exact View.read_writes_cons_hit_of_coords M.view f (Rect.unit (fun _ => 0) S.size inb) w [] y y
    (fun a => by show (y a).val = 0 + 1 * (y a).val; omega)

/-- A store of one row leaves that row replaced. -/
theorem read_store_row (M : Memref sig .tc .vmem S8x1024 .f32) (n : ℕ) (o : Fin 2 → ℕ) (ho : o = ![n, 0])
    (inb : ∀ a, o a + S1x1024.size a ≤ S8x1024.size a) (f : M.view.ty.Contents (Elt F)) (w : FVec F S1x1024 .f32)
    (Y : FVec F S8x1024 .f32) (hf : M.view.read (Elt F) f = Y) :
    M.view.read (Elt F) ((M.access (Rect.unit (s := S8x1024) o S1x1024.size inb)).write (Elt F) f w Finset.univ) = rowSet n w Y := by
  subst hf ho
  funext y
  unfold rowSet
  split
  · rename_i hn
    refine View.read_writes_cons_hit_of_coords M.view f (Rect.unit (s := S8x1024) ![n, 0] S1x1024.size inb) w [] (ix2 0 (y 1)) y (fun a => ?_)
    fin_cases a
    · show (y 0).val = n + 1 * 0; omega
    · show (y 1).val = 0 + 1 * (y 1).val; omega
  · rename_i hn
    refine View.read_writes_cons_miss_of_axis M.view f ⟨Rect.unit (s := S8x1024) ![n, 0] S1x1024.size inb, w⟩ [] y 0 n 1 rfl rfl rfl ?_
    omega

/-- The statistics body: the block copied out, its row sums and sums of squares stored as one row of each table. -/
theorem body0Run (c : Dev nD) (i : grid0.Coords)
    (M0 : Memref sig .tc .vmem S1024x2048 .bf16) (h0 : M0.IsWhole) (M1 : Memref sig .tc .vmem S1024x2048 .bf16) (h1 : M1.IsWhole)
    (M2 : Memref sig .tc .vmem S8x1024 .f32) (h2 : M2.IsWhole) (M3 : Memref sig .tc .vmem S8x1024 .f32) (h3 : M3.IsWhole)
    (X Y1 : FVec F S1024x2048 .bf16) (Y2 Y3 : FVec F S8x1024 .f32) (Q : PUnit → sProp 𝕄) :
    iprop(owns (c : Thread nD τ) M0 fullShare X ∗ owns (c : Thread nD τ) M1 fullShare Y1 ∗ owns (c : Thread nD τ) M2 fullShare Y2
      ∗ owns (c : Thread nD τ) M3 fullShare Y3
      ∗ (iprop(owns (c : Thread nD τ) M0 fullShare X ∗ owns (c : Thread nD τ) M1 fullShare (k0_pay1 X)
          ∗ owns (c : Thread nD τ) M2 fullShare (rowSet (i 0).val (k0_pay3 X) Y2)
          ∗ owns (c : Thread nD τ) M3 fullShare (rowSet (i 0).val (k0_pay4 X) Y3)) -∗ Q ⟨⟩))
      ⊢ wp frame (wpE (defs₀ (F := F)) 𝒱₀ (c : Thread nD τ) none) Set.univ (cc0_body i M0 h0 M1 h1 M2 h2 M3 h3) Q := by
  rw [cc0_body_eq_skeleton]
  unfold owns
  simp only [cc0_body_skel, Prog.lift, Prog.bind_op, Prog.bind_ret, Prog.pure_eq_ret]
  iintro ⟨⟨%f0, %hf0, H0⟩, ⟨%f1, %hf1, H1⟩, ⟨%f2, %hf2, H2⟩, ⟨%f3, %hf3, H3⟩, Hk⟩
  sl_steps
  rw [readAt_whole M0 hz2 inb_S1024x2048_S1024x2048_0_0 f0 X hf0]
  iapply Hk
  isplitl [H0]; · iexists f0; isplitr; · ipureintro; exact hf0
                  iexact H0
  isplitl [H1]; · iexists _; isplitr; swap; · iexact H1
                  ipureintro; exact read_store_whole M1 hz2 _ f1 _
  isplitl [H2]; · iexists _; isplitr; swap; · iexact H2
                  ipureintro; exact read_store_row M2 _ _ (k0_off1_eq i) _ f2 _ Y2 hf2
  iexists _; isplitr; swap; · iexact H3
  ipureintro; exact read_store_row M3 _ _ (k0_off1_eq i) _ f3 _ Y3 hf3

/-- The first column of a two-column block, and the second. -/
def colA (B : FVec F S1024x2 .bf16) : FVec F S1024x1 .bf16 := fun i => B (ix2 (i 0) 0)
def colB (B : FVec F S1024x2 .bf16) : FVec F S1024x1 .bf16 := fun i => B (ix2 (i 0) 1)

theorem readAt_col (M : Memref sig .tc .vmem S1024x2 .bf16) (o : Fin 2 → ℕ) (inb : ∀ a, o a + S1024x1.size a ≤ S1024x2.size a)
    (k : Fin 2) (ho : o = ![0, k.val]) (f : M.view.ty.Contents (Elt F)) (B : FVec F S1024x2 .bf16) (hf : M.view.read (Elt F) f = B) :
    M.view.readAt (Elt F) (Rect.unit (s := S1024x2) o S1024x1.size inb).toLoadRect f = fun i => B (ix2 (i 0) k) := by
  subst hf ho
  funext i
  show M.view.read (Elt F) f _ = M.view.read (Elt F) f _
  congr 1
  funext a
  apply Fin.ext
  fin_cases a
  · show 0 + 1 * (i 0).val = (i 0).val; omega
  · show k.val + 1 * (i 1).val = k.val
    have : (i 1).val < 1 := (i 1).isLt
    omega

/-- The normalising body: the block minus its column of means, times its column of reciprocal deviations, scaled and shifted. -/
theorem body2Run (c : Dev nD) (i : grid2.Coords)
    (M0 : Memref sig .tc .vmem S1024x2048 .bf16) (h0 : M0.IsWhole) (M1 : Memref sig .tc .vmem S1024x2 .bf16) (h1 : M1.IsWhole)
    (M2 : Memref sig .tc .vmem S1x2048 .bf16) (h2 : M2.IsWhole) (M3 : Memref sig .tc .vmem S1x2048 .bf16) (h3 : M3.IsWhole)
    (M4 : Memref sig .tc .vmem S1024x2048 .bf16) (h4 : M4.IsWhole)
    (X Y : FVec F S1024x2048 .bf16) (B : FVec F S1024x2 .bf16) (G H : FVec F S1x2048 .bf16) (Q : PUnit → sProp 𝕄) :
    iprop(owns (c : Thread nD τ) M0 fullShare X ∗ owns (c : Thread nD τ) M1 fullShare B ∗ owns (c : Thread nD τ) M2 fullShare G
      ∗ owns (c : Thread nD τ) M3 fullShare H ∗ owns (c : Thread nD τ) M4 fullShare Y
      ∗ (iprop(owns (c : Thread nD τ) M0 fullShare X ∗ owns (c : Thread nD τ) M1 fullShare B ∗ owns (c : Thread nD τ) M2 fullShare G
          ∗ owns (c : Thread nD τ) M3 fullShare H
          ∗ owns (c : Thread nD τ) M4 fullShare (k2_pay1 (colA B) (colB B) X G H)) -∗ Q ⟨⟩))
      ⊢ wp frame (wpE (defs₀ (F := F)) 𝒱₀ (c : Thread nD τ) none) Set.univ (cc2_body i M0 h0 M1 h1 M2 h2 M3 h3 M4 h4) Q := by
  rw [cc2_body_eq_skeleton]
  unfold owns
  simp only [cc2_body_skel, Prog.lift, Prog.bind_op, Prog.bind_ret, Prog.pure_eq_ret]
  iintro ⟨⟨%f0, %hf0, H0⟩, ⟨%f1, %hf1, H1⟩, ⟨%f2, %hf2, H2⟩, ⟨%f3, %hf3, H3⟩, ⟨%f4, %hf4, H4⟩, Hk⟩
  sl_steps
  rw [readAt_whole M0 hz2 inb_S1024x2048_S1024x2048_0_0 f0 X hf0, readAt_col M1 ![0, 0] inb_S1024x2_S1024x1_0_0 0 rfl f1 B hf1, readAt_col M1 ![0, 1] inb_S1024x2_S1024x1_0_1 1 rfl f1 B hf1,
    readAt_whole M2 hz2 inb_S1x2048_S1x2048_0_0 f2 G hf2, readAt_whole M3 hz2 inb_S1x2048_S1x2048_0_0 f3 H hf3]
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists _; isplitr; swap; · iexact H4
  ipureintro; exact read_store_whole M4 hz2 _ f4 _

end Cert.KernelIdeal.Norm

end
-- ==== Proof.Norm.Region0.lean ====
/- The statistics region: what each window holds at each grid point, and what the region leaves in its arrays. -/
module

public import proofs.«01_k».proof.Proof.Norm.Bodies
public import proofs.«01_k».proof.Proof.Gen.KernelIdeal.Launch
public import Idealize.ShloMosaic.Lib.Pipeline.DatRel
public import Idealize.ShloMosaic.Lib.Pipeline.ArrRel
public import Idealize.ShloMosaic.Lib.Pipeline.FrameBody
public import Idealize.ShloMosaic.Lib.Pipeline.ValueKit.Geometry

@[expose] public section

set_option maxRecDepth 16384

noncomputable section

namespace Cert.KernelIdeal.Norm

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel RDat)

variable {F : FTy → Type} [FloatOps F]

local notation "𝕄" => MT nD τ sig Unit (Elt F) ℕ UU ℕ

variable (m : (ℓ : Loc nD τ sig) → Buf (Elt F) ℓ)

/-- Device `c`'s argument `x`, and its row block of 1024 rows at a grid point. -/
def xarr (c : Dev nD) : FVec F S8192x2048 .bf16 := m ((c : Thread nD τ).loc main_arg0)
def xblk (c : Dev nD) (t : Fin cfg0.N) : FVec F S1024x2048 .bf16 :=
  ((cfg0.win 0).blk t).view.read (Elt F) (m ((c : Thread nD τ).loc main_arg0))

theorem n0 : cfg0.N = 8 := N_0

theorem row_lt (i : S8x1024.Idx) : (i 0).val < cfg0.N := by rw [n0]; exact (i 0).isLt

/-- The table of row sums: row `t` is block `t`'s, and the table of row sums of squares. -/
def sC (c : Dev nD) : FVec F S8x1024 .f32 := fun i => k0_pay3 (xblk m c ⟨(i 0).val, row_lt i⟩) (ix2 0 (i 1))
def qC (c : Dev nD) : FVec F S8x1024 .f32 := fun i => k0_pay4 (xblk m c ⟨(i 0).val, row_lt i⟩) (ix2 0 (i 1))

/-- The region's data: the entry arrays, the block and its copy at each point, the tables named whole. -/
def dat0 (c : Dev nD) : Dat τ (Elt F) Unit ℕ UU ℕ cfg0 c where
  A w := m ((c : Thread nD τ).loc (Pipeline.arrRef spec0 w))
  after w t := match w with
    | ⟨0, _⟩ => xblk m c t
    | ⟨1, _⟩ => xblk m c t
    | ⟨2, _⟩ => sC m c
    | ⟨3, _⟩ => qC m c
  Φ _ := Pipeline.scopedRest (Ix := Unit) (Name := ℕ) (U := UU) (Lvl := ℕ) (Val := Elt F) spec0 c
  q _ := fullShare
  owed _ := O₀ c

/-- The two tables' windows are held to a predicate. -/
def fg0 (w : Fin cfg0.W) : Bool := match w with
  | ⟨0, _⟩ => false
  | ⟨1, _⟩ => false
  | ⟨2, _⟩ => true
  | ⟨3, _⟩ => true

/-- After point `t`, rows `0` to `t` of a table's window hold the table's. -/
def upTo (T X : FVec F S8x1024 .f32) (n : ℕ) : Prop := ∀ i : S8x1024.Idx, (i 0).val ≤ n → X i = T i

def Rl0 (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, X => upTo (sC m c) X t.val
  | ⟨3, _⟩, X => upTo (qC m c) X t.val

abbrev rdat0 (c : Dev nD) : RDat τ (Elt F) Unit ℕ UU ℕ cfg0 c := (dat0 m c).toRRel fg0 (Rl0 m c)

theorem coord0 (t : Fin cfg0.N) : ((grid0.coords t) 0).val = t.val := by
  have h := Pipeline.Grid.coords_val (G := grid0) t 0 (S := 1) (B := 8) (by decide) rfl
  have h8 : t.val < 8 := Nat.lt_of_lt_of_eq t.isLt n0
  omega

/-- The copied block is the block. -/
theorem pay1_eq (X : FVec F S1024x2048 .bf16) : k0_pay1 X = X := by
  unfold k0_pay1
  exact shapeCast_self _ _

/-- Row `t` stored over rows below `t` gives rows up to `t`. -/
theorem upTo_rowSet (T Y : FVec F S8x1024 .f32) (n : ℕ) (w : FVec F S1x1024 .f32)
    (hw : ∀ i : S8x1024.Idx, (i 0).val = n → w (ix2 0 (i 1)) = T i) (hY : ∀ i : S8x1024.Idx, (i 0).val < n → Y i = T i) :
    upTo T (rowSet n w Y) n := by
  intro i hi
  unfold rowSet
  split
  · rename_i h; exact hw i h
  · rename_i h; exact hY i (by omega)

theorem before0_0 (c : Dev nD) (t : Fin cfg0.N) (d : (cfg0.win 0).block.Idx → Elt F (cfg0.win 0).elt) :
    (dat0 m c).before 0 t d = xblk m c t := by
  rw [(dat0 m c).before_fetched 0 t (fetch0_0 t) d]; rfl

/-- What the body finds in a table's window: below the point's row, the table's rows. -/
theorem finds2 (c : Dev nD) (t : Fin cfg0.N) (Y : FVec F S8x1024 .f32) (h : (rdat0 m c).Finds 2 t Y) :
    ∀ i : S8x1024.Idx, (i 0).val < t.val → Y i = sC m c i := by
  intro i hi
  have ht : t.val ≠ 0 := by omega
  have h8 : t.val < 8 := Nat.lt_of_lt_of_eq t.isLt n0
  rcases ((rdat0 m c).finds_of_pos ((cfg0.win 2).fetch_out rfl t) ht Y).mp h with hfl | hl
  · have := (flush0_2 _).mp hfl
    dsimp only at this; omega
  · have := (dat0 m c).toRRel_leaves (w := 2) (Rl := Rl0 m c) (fgt := fg0) rfl hl
    exact this i (by show (i 0).val ≤ t.val - 1; omega)

theorem finds3 (c : Dev nD) (t : Fin cfg0.N) (Y : FVec F S8x1024 .f32) (h : (rdat0 m c).Finds 3 t Y) :
    ∀ i : S8x1024.Idx, (i 0).val < t.val → Y i = qC m c i := by
  intro i hi
  have ht : t.val ≠ 0 := by omega
  have h8 : t.val < 8 := Nat.lt_of_lt_of_eq t.isLt n0
  rcases ((rdat0 m c).finds_of_pos ((cfg0.win 3).fetch_out rfl t) ht Y).mp h with hfl | hl
  · have := (flush0_3 _).mp hfl
    dsimp only at this; omega
  · have := (dat0 m c).toRRel_leaves (w := 3) (Rl := Rl0 m c) (fgt := fg0) rfl hl
    exact this i (by show (i 0).val ≤ t.val - 1; omega)

theorem row_sC (c : Dev nD) (t : Fin cfg0.N) (i : S8x1024.Idx) (hi : (i 0).val = t.val) :
    k0_pay3 (xblk m c t) (ix2 0 (i 1)) = sC m c i := by
  unfold sC
  rw [show (⟨(i 0).val, row_lt i⟩ : Fin cfg0.N) = t from Fin.ext hi]
theorem row_qC (c : Dev nD) (t : Fin cfg0.N) (i : S8x1024.Idx) (hi : (i 0).val = t.val) :
    k0_pay4 (xblk m c t) (ix2 0 (i 1)) = qC m c i := by
  unfold qC
  rw [show (⟨(i 0).val, row_lt i⟩ : Fin cfg0.N) = t from Fin.ext hi]

/-- The body's obligation: the block copied, one row of each table stored. -/
theorem body0 (c : Dev nD) : BodyObligationRel (dat0 m c) (defs₀ (F := F)) 𝒱₀ () Set.univ fg0 (Rl0 m c) := fun t => by
  rw [bigSep_W0, bigSep_W0]
  rw [show (dat0 m c).Φ t.succ = (dat0 m c).Φ t.castSucc from rfl,
    show (dat0 m c).owesAt () t.succ = (dat0 m c).owesAt () t.castSucc from rfl]
  dsimp only [fg0]
  iintro ⟨HΦ, HO, ⟨%d0, H0⟩, ⟨%d1, H1⟩, ⟨%Y2, %h2, H2⟩, ⟨%Y3, %h3, H3⟩⟩
  rw [before0_0]
  iapply (body0Run c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (xblk m c t) ((dat0 m c).before 1 t d1) Y2 Y3 _)
  isplitl [H0]; · iexact H0
  isplitl [H1]; · iexact H1
  isplitl [H2]; · iexact H2
  isplitl [H3]; · iexact H3
  rw [coord0 t, pay1_eq]
  iintro ⟨H0, H1, H2, H3⟩
  isplitl [HΦ]; · iexact HΦ
  isplitl [HO]; · iexact HO
  isplitl [H0]; · iexact H0
  isplitl [H1]; · iexact H1
  isplitl [H2]
  · iexists _; isplitr; swap; · iexact H2
    ipureintro
    exact upTo_rowSet (sC m c) Y2 t.val _ (fun i hi => row_sC m c t i hi) (finds2 m c t Y2 h2)
  · iexists _; isplitr; swap; · iexact H3
    ipureintro
    exact upTo_rowSet (qC m c) Y3 t.val _ (fun i hi => row_qC m c t i hi) (finds3 m c t Y3 h3)

/-! ## What the region leaves -/

/-- The copy of `x` is `x`. -/
theorem final0_1 (c : Dev nD) : (dat0 m c).arrAt 1 cfg0.N = xarr m c := by
  refine (dat0 m c).arrAt_eq_of_cover 1 (xarr m c) (fun t _ => rfl) (fun i => ?_)
  exact Pipeline.Window.Covers.cover (w := win0_1) (by decide +kernel) (Memref.isWhole_whole _) i

def t7 : Fin cfg0.N := ⟨7, by rw [n0]; decide⟩

theorem final0_2 (c : Dev nD) (G) (h : (rdat0 m c).ArrAt 2 cfg0.N G) : G = sC m c := by
  obtain ⟨X, hX, hG⟩ := h.emb_eq_of_wholeAt (t₀ := t7) (show win0_2.WholeAt t7 by decide +kernel)
  have hu := (dat0 m c).toRRel_leaves (w := 2) (Rl := Rl0 m c) (fgt := fg0) rfl hX
  funext j
  exact (hG j).trans (hu j (by have := (j 0).isLt; show (j 0).val ≤ 7; exact Nat.le_of_lt_succ this))
theorem final0_3 (c : Dev nD) (G) (h : (rdat0 m c).ArrAt 3 cfg0.N G) : G = qC m c := by
  obtain ⟨X, hX, hG⟩ := h.emb_eq_of_wholeAt (t₀ := t7) (show win0_3.WholeAt t7 by decide +kernel)
  have hu := (dat0 m c).toRRel_leaves (w := 3) (Rl := Rl0 m c) (fgt := fg0) rfl hX
  funext j
  exact (hG j).trans (hu j (by have := (j 0).isLt; show (j 0).val ≤ 7; exact Nat.le_of_lt_succ this))

end Cert.KernelIdeal.Norm

end
-- ==== Proof.Norm.Region2.lean ====
/- What the regions leave in their arrays; the exchange region's and the normalising region's windows, point by point. -/
module

public import proofs.«01_k».proof.Proof.Norm.Region0
public import proofs.«01_k».proof.Proof.Gen.KernelIdeal.Regions

@[expose] public section

set_option maxRecDepth 16384

noncomputable section

namespace Cert.KernelIdeal.Norm

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel RDat)

variable {F : FTy → Type} [FloatOps F]

local notation "𝕄" => MT nD τ sig Unit (Elt F) ℕ UU ℕ

variable (m : (ℓ : Loc nD τ sig) → Buf (Elt F) ℓ)

/-- The table of means and reciprocal deviations device `c` makes of all devices' statistics. -/
def mrC (c : Dev nD) : FVec F S8192x2 .bf16 := outC (commOf (sC m) (qC m)) c

/-- What the first two regions leave: the copy of `x`, the two tables, the exchanged table. -/
def outsA : (r : Ref sig .tc) → (c : Dev nD) → Buf (Elt F) ((c : Thread nD τ).loc r) :=
  Function.update (Function.update (Function.update (Function.update (fun r c => m ((c : Thread nD τ).loc r))
    main_v1_0 (fun c => xarr m c)) main_v1_1 (fun c => sC m c)) main_v1_2 (fun c => qC m c)) main_v2 (fun c => mrC m c)

theorem outsA_x (c : Dev nD) : outsA m main_v1_0 c = xarr m c := by
  unfold outsA
  rw [Function.update_of_ne (by decide), Function.update_of_ne (by decide), Function.update_of_ne (by decide), Function.update_self]
theorem outsA_s (c : Dev nD) : outsA m main_v1_1 c = sC m c := by
  unfold outsA
  rw [Function.update_of_ne (by decide), Function.update_of_ne (by decide), Function.update_self]
theorem outsA_q (c : Dev nD) : outsA m main_v1_2 c = qC m c := by
  unfold outsA
  rw [Function.update_of_ne (by decide), Function.update_self]
theorem outsA_mr (c : Dev nD) : outsA m main_v2 c = mrC m c := by
  unfold outsA
  rw [Function.update_self]

/-- The buffers as the normalising region finds them. -/
abbrev VA (c : Dev nD) : Valuation τ sig (Elt F) := V3 m (fun _ => outsA m) c

/-- The scale and the shift, each a row. -/
def gRow (c : Dev nD) : FVec F S1x2048 .bf16 := VA m c main_v3
def bRow (c : Dev nD) : FVec F S1x2048 .bf16 := VA m c main_v4

/-- The blocks at point `t` of the normalising region: of `x`, of the exchanged table, of the scale, of the shift. -/
def xb (c : Dev nD) (t : Fin cfg2.N) : FVec F S1024x2048 .bf16 := ((cfg2.win 0).blk t).view.read (Elt F) (xarr m c)
def mrb (c : Dev nD) (t : Fin cfg2.N) : FVec F S1024x2 .bf16 := ((cfg2.win 1).blk t).view.read (Elt F) (mrC m c)
def gb (c : Dev nD) (t : Fin cfg2.N) : FVec F S1x2048 .bf16 := ((cfg2.win 2).blk t).view.read (Elt F) (gRow m c)
def bb (c : Dev nD) (t : Fin cfg2.N) : FVec F S1x2048 .bf16 := ((cfg2.win 3).blk t).view.read (Elt F) (bRow m c)

/-- The normalised block at point `t`. -/
def yblk (c : Dev nD) (t : Fin cfg2.N) : FVec F S1024x2048 .bf16 :=
  k2_pay1 (colA (mrb m c t)) (colB (mrb m c t)) (xb m c t) (gb m c t) (bb m c t)

def dat2 (c : Dev nD) : Dat τ (Elt F) Unit ℕ UU ℕ cfg2 c where
  A w := match w with
    | ⟨0, _⟩ => xarr m c
    | ⟨1, _⟩ => mrC m c
    | ⟨2, _⟩ => gRow m c
    | ⟨3, _⟩ => bRow m c
    | ⟨4, _⟩ => m ((c : Thread nD τ).loc main_v5)
  after w t := match w with
    | ⟨0, _⟩ => xb m c t
    | ⟨1, _⟩ => mrb m c t
    | ⟨2, _⟩ => gb m c t
    | ⟨3, _⟩ => bb m c t
    | ⟨4, _⟩ => yblk m c t
  Φ _ := Pipeline.scopedRest (Ix := Unit) (Name := ℕ) (U := UU) (Lvl := ℕ) (Val := Elt F) spec2 c
  q _ := fullShare
  owed _ := 0

attribute [local irreducible] mrC gRow bRow xarr

theorem before2_0 (c : Dev nD) (t : Fin cfg2.N) (d : (cfg2.win 0).block.Idx → Elt F (cfg2.win 0).elt) :
    (dat2 m c).before 0 t d = xb m c t := by
  rw [(dat2 m c).before_fetched 0 t (fetch2_0 t) d]; rfl
theorem before2_1 (c : Dev nD) (t : Fin cfg2.N) (d : (cfg2.win 1).block.Idx → Elt F (cfg2.win 1).elt) :
    (dat2 m c).before 1 t d = mrb m c t := by
  rw [(dat2 m c).before_fetched 1 t (fetch2_1 t) d]; rfl
theorem before2_2 (c : Dev nD) (t : Fin cfg2.N) (d : (cfg2.win 2).block.Idx → Elt F (cfg2.win 2).elt) :
    (dat2 m c).before 2 t d = gb m c t := by
  rw [(dat2 m c).before_in_eq_fetched 2 rfl (fun _ => rfl) (fun _ _ _ => rfl) (fun t => rfl) t d]; rfl
theorem before2_3 (c : Dev nD) (t : Fin cfg2.N) (d : (cfg2.win 3).block.Idx → Elt F (cfg2.win 3).elt) :
    (dat2 m c).before 3 t d = bb m c t := by
  rw [(dat2 m c).before_in_eq_fetched 3 rfl (fun _ => rfl) (fun _ _ _ => rfl) (fun t => rfl) t d]; rfl

/-- The normalising body's obligation. -/
theorem body2 (c : Dev nD) : BodyObligation (dat2 m c) (defs₀ (F := F)) 𝒱₀ () Set.univ := fun t => by
  rw [bigSep_W2, bigSep_W2]
  rw [show (dat2 m c).Φ t.succ = (dat2 m c).Φ t.castSucc from rfl,
    show (dat2 m c).owesAt () t.succ = (dat2 m c).owesAt () t.castSucc from rfl]
  iintro ⟨HΦ, HO, ⟨%d0, H0⟩, ⟨%d1, H1⟩, ⟨%d2, H2⟩, ⟨%d3, H3⟩, ⟨%d4, H4⟩⟩
  rw [before2_0, before2_1, before2_2, before2_3]
  iapply (body2Run c (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (win2_4.stage (cfg2.slots t 4)) (hstage2_4 ((cfg2.slots t 4).cast nbuf2_4))
    (xb m c t) ((dat2 m c).before 4 t d4) (mrb m c t) (gb m c t) (bb m c t) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- What all regions leave. -/
def outsAll : Outs (F := F)
  | 4 => Function.update (outsA m) main_v5 (fun c => (dat2 m c).arrAt 4 cfg2.N)
  | _ => outsA m

theorem VA_eq (c : Dev nD) : V3 m (outsAll m) c = VA m c := rfl

theorem final2_4 (c : Dev nD) : outsAll m 4 main_v5 c = (dat2 m c).arrAt 4 cfg2.N := by
  show Function.update (outsA m) main_v5 (fun c => (dat2 m c).arrAt 4 cfg2.N) main_v5 c = _
  rw [Function.update_self]

end Cert.KernelIdeal.Norm

end
-- ==== Proof.Norm.Region1.lean ====
/- The exchange region: its data, its body's obligation, the steps that open and close its cells. -/
module

public import proofs.«01_k».proof.Proof.Norm.Region2

@[expose] public section

set_option maxRecDepth 16384

noncomputable section

namespace Cert.KernelIdeal.Norm

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

attribute [local irreducible] mrC sC qC xarr

variable (m : (ℓ : Loc nD τ sig) → Buf (Elt F) ℓ)

/-- The contents every device's statistics make in the communication buffer. -/
abbrev comm : Comm F := commOf (sC m) (qC m)

/-- The scoped buffers no window of the exchange stages, the communication buffer apart. -/
def others (c : Dev nD) : sProp 𝕄 :=
  iprop((∃ f, pt c cc0_stg0_0 f) ∗ (∃ f, pt c cc0_stg0_1 f) ∗ (∃ f, pt c cc0_stg1_0 f) ∗ (∃ f, pt c cc0_stg1_1 f)
    ∗ (∃ f, pt c cc0_stg2_0 f) ∗ (∃ f, pt c cc0_stg3_0 f) ∗ (∃ f, pt c cc2_stg0_0 f) ∗ (∃ f, pt c cc2_stg0_1 f)
    ∗ (∃ f, pt c cc2_stg1_0 f) ∗ (∃ f, pt c cc2_stg1_1 f) ∗ (∃ f, pt c cc2_stg2_0 f) ∗ (∃ f, pt c cc2_stg3_0 f)
    ∗ (∃ f, pt c cc2_stg4_0 f) ∗ (∃ f, pt c cc2_stg4_1 f))

theorem rest_eq (c : Dev nD) :
    (Pipeline.scopedRest (Ix := Unit) (Name := ℕ) (U := UU) (Lvl := ℕ) (Val := Elt F) spec1 c : sProp 𝕄)
      ⊣⊢ iprop((∃ f, pt c cc1_scratch0 f) ∗ others c) := by
  rw [scopedRest1_eq]
  unfold others
  constructor
  · iintro ⟨H1, H2, H3, H4, H5, H6, HX, H7, H8, H9, H10, H11, H12, H13, H14⟩
    isplitl [HX]; · iexact HX
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro ⟨HX, H1, H2, H3, H4, H5, H6, H7, H8, H9, H10, H11, H12, H13, H14⟩
    isplitl [H1]; · iexact H1
    isplitl [H2]; · iexact H2
    isplitl [H3]; · iexact H3
    isplitl [H4]; · iexact H4
    isplitl [H5]; · iexact H5
    isplitl [H6]; · iexact H6
    isplitl [HX]; · iexact HX
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The counters of the two cells no copy uses. -/
def idle (c : Dev nD) : sProp 𝕄 := iprop(semVal (sendCell c 0) 0 ∗ semVal (recvCell c c) 0)

/-- What the exchange brings in from launch, and with its cells open. -/
def Tk (c : Dev nD) : sProp 𝕄 := iprop((∃ K, ghost (comm m) K c) ∗ credits c)
def Xk (c : Dev nD) : sProp 𝕄 := iprop((∃ K, opened (comm m) K c) ∗ credits c ∗ levAts L lv ∗ idle c)

/-- The counters of the cells the copies use. -/
def shut (c : Dev nD) : sProp 𝕄 :=
  iprop((semVal (sendCell c 1) 0 ∗ semVal (sendCell c 2) 0 ∗ semVal (sendCell c 3) 0)
    ∗ (semVal (recvCell c (pk 1 c)) 0 ∗ semVal (recvCell c (pk 2 c)) 0 ∗ semVal (recvCell c (pk 3 c)) 0))

def Φ1a (c : Dev nD) : sProp 𝕄 := iprop(Xk m c ∗ (∃ f, pt c cc1_scratch0 f) ∗ others c ∗ ∃ r, prngReg c r)
def Φ1b (c : Dev nD) : sProp 𝕄 :=
  iprop(semVal (barCell c) 0 ∗ shut c ∗ idle c ∗ (∃ f, pt c cc1_scratch0 f) ∗ others c ∗ ∃ r, prngReg c r)

def dat1 (c : Dev nD) : Dat τ (Elt F) Unit ℕ UU ℕ cfg1 c where
  A w := match w with
    | ⟨0, _⟩ => sC m c
    | ⟨1, _⟩ => qC m c
    | ⟨2, _⟩ => m ((c : Thread nD τ).loc main_v2)
  after w t := match w with
    | ⟨0, _⟩ => sC m c
    | ⟨1, _⟩ => qC m c
    | ⟨2, _⟩ => mrC m c
  Φ t := if t.val = 0 then Φ1a m c else Φ1b c
  q _ := fullShare
  owed t := if t.val = 0 then O₀ c else 0

theorem n1 : cfg1.N = 1 := N_1

theorem owed1_zero (c : Dev nD) : (dat1 m c).owed 0 = O₀ c := by
  show (if ((0 : Fin (cfg1.N + 1)).val = 0) then O₀ c else 0) = O₀ c; exact if_pos rfl
theorem owed1_first (c : Dev nD) : (dat1 m c).owed t1_0.castSucc = O₀ c := by
  show (if (t1_0.castSucc : Fin (cfg1.N + 1)).val = 0 then O₀ c else 0) = O₀ c; exact if_pos rfl
theorem owed1_last (c : Dev nD) : (dat1 m c).owed (Fin.last _) = 0 := by
  show (if (Fin.last cfg1.N).val = 0 then O₀ c else 0) = 0
  rw [Fin.val_last, if_neg (by rw [n1]; decide)]
theorem Φ1_zero (c : Dev nD) : (dat1 m c).Φ 0 = Φ1a m c := by
  show (if ((0 : Fin (cfg1.N + 1)).val = 0) then Φ1a m c else Φ1b c) = Φ1a m c; exact if_pos rfl
theorem Φ1_last (c : Dev nD) : (dat1 m c).Φ (Fin.last _) = Φ1b c := by
  show (if (Fin.last cfg1.N).val = 0 then Φ1a m c else Φ1b c) = Φ1b c
  rw [Fin.val_last, if_neg (by rw [n1]; decide)]

theorem owes_in {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owes_out {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-! ## The arrays -/

theorem V1_x (c : Dev nD) : V1 m (outsAll m) c main_v1_0 = xarr m c := by
  show Function.update (Function.update (Function.update _ _ _) _ _) _ _ _ = _
  rw [Function.update_of_ne (by decide), Function.update_of_ne (by decide), Function.update_self]
  exact outsA_x m c
theorem V1_s (c : Dev nD) : V1 m (outsAll m) c main_v1_1 = sC m c := by
  show Function.update (Function.update _ _ _) _ _ _ = _
  rw [Function.update_of_ne (by decide), Function.update_self]
  exact outsA_s m c
theorem V1_q (c : Dev nD) : V1 m (outsAll m) c main_v1_2 = qC m c := by
  show Function.update _ _ _ _ = _
  rw [Function.update_self]
  exact outsA_q m c
theorem V2_mr (c : Dev nD) : V2 m (outsAll m) c main_v2 = mrC m c := by
  show Function.update _ _ _ _ = _
  rw [Function.update_self]
  exact outsA_mr m c

/-- A whole-array window reads the array. -/
theorem whole1_0 (c : Dev nD) (t : Fin cfg1.N) (f : FVec F S8x1024 .f32) : ((cfg1.win 0).blk t).view.read (Elt F) f = f := by
  obtain rfl := fin_N1 t
  exact Memref.read_access_unit_zero (Elt F) main_v1_1 (by decide) _ f
theorem whole1_1 (c : Dev nD) (t : Fin cfg1.N) (f : FVec F S8x1024 .f32) : ((cfg1.win 1).blk t).view.read (Elt F) f = f := by
  obtain rfl := fin_N1 t
  exact Memref.read_access_unit_zero (Elt F) main_v1_2 (by decide) _ f
theorem whole1_2 (c : Dev nD) (t : Fin cfg1.N) (f : FVec F S8192x2 .bf16) : ((cfg1.win 2).blk t).view.read (Elt F) f = f := by
  obtain rfl := fin_N1 t
  exact Memref.read_access_unit_zero (Elt F) main_v2 (by decide) _ f

theorem before1_0 (c : Dev nD) (t : Fin cfg1.N) (d : (cfg1.win 0).block.Idx → Elt F (cfg1.win 0).elt) :
    (dat1 m c).before 0 t d = sC m c := by
  rw [(dat1 m c).before_fetched 0 t (fetch1_0 t) d]
  exact whole1_0 (F := F) c t _
theorem before1_1 (c : Dev nD) (t : Fin cfg1.N) (d : (cfg1.win 1).block.Idx → Elt F (cfg1.win 1).elt) :
    (dat1 m c).before 1 t d = qC m c := by
  rw [(dat1 m c).before_fetched 1 t (fetch1_1 t) d]
  exact whole1_1 (F := F) c t _

theorem final1_2 (c : Dev nD) : (dat1 m c).arrAt 2 cfg1.N = mrC m c := by
  refine (dat1 m c).arrAt_eq_of_cover 2 (mrC m c) (fun t _ => (whole1_2 c t _).symm) (fun i => ?_)
  exact Pipeline.Window.Covers.cover (w := win1_2) (by decide +kernel) (Memref.isWhole_whole _) i

/-! ## The body -/

theorem mrC_eq (c : Dev nD) : mrC m c = outC (commOf (sC m) (qC m)) c := by unfold mrC; rfl

theorem prog1 : (defs₀ (F := F)) Proc.tc cfg1.body (cfg1.bodyArgs t1_0 (cfg1.slots t1_0))
    = cc1_body (Memref.whole cc1_stg0_0) (Memref.isWhole_whole _) (Memref.whole cc1_stg1_0) (Memref.isWhole_whole _)
        (Memref.whole cc1_stg2_0) (Memref.isWhole_whole _) (Memref.whole cc1_scratch0) (Memref.isWhole_whole _) cc1_scratch1 cc1_scratch2 := by
  show bodyAt1 (F := F) t1_0 = _
  rfl

theorem body1 (c : Dev nD) : BodyObligation (dat1 m c) (defs₀ (F := F)) 𝒱₀ () Set.univ := fun t => by
  obtain rfl := fin_N1 t
  rw [bigSep_W1, bigSep_W1]
  rw [show (dat1 m c).Φ t1_0.castSucc = Φ1a m c from Φ1_zero m c, show (dat1 m c).Φ t1_0.succ = Φ1b c from Φ1_last m c]
  iintro ⟨HΦ, HO, ⟨%d0, H0⟩, ⟨%d1, H1⟩, ⟨%d2, H2⟩⟩
  rw [before1_0, before1_1]
  unfold Φ1a Xk
  icases HΦ with ⟨⟨⟨%K, Hg⟩, Hcr, Hlev, Hid⟩, Hcm, Hot, Hp⟩
  ihave HO' := (owes_out (dat1 m c) _ (O₀ c) (owed1_first m c)) $$ HO
  icases HO' with ⟨%W, HO⟩
  ihave H0 := (Entails.of_eq (owns_whole (c : Thread nD τ) cc1_stg0_0 fullShare (sC m c))) $$ H0
  ihave H1 := (Entails.of_eq (owns_whole (c : Thread nD τ) cc1_stg1_0 fullShare (qC m c))) $$ H1
  ihave H2 := (Entails.of_eq (owns_whole (c : Thread nD τ) cc1_stg2_0 fullShare ((dat1 m c).before 2 t1_0 d2))) $$ H2
  rw [prog1]
  iapply (talkRun (sC m) (qC m) K c W _)
  isplitl [Hg Hcr Hlev Hcm H0 H1 H2 HO]
  · unfold talkPre
    isplitl [Hg]; · iexact Hg
    isplitl [Hcr]; · iexact Hcr
    isplitl [Hlev]; · iexact Hlev
    isplitl [Hcm]; · iexact Hcm
    isplitl [H0]; · iexact H0
    isplitl [H1]; · iexact H1
    isplitl [H2]; · iexists _; iexact H2
    iexact HO
  unfold talkPost
  rw [← mrC_eq]
  iintro ⟨Hb, Hs, Hr, Hcm, H0, H1, H2, ⟨%W', HO⟩⟩
  isplitl [Hb Hs Hr Hid Hcm Hot Hp]
  · unfold Φ1b shut
    isplitl [Hb]; · iexact Hb
    isplitl [Hs Hr]; · isplitl [Hs] <;> iassumption
    isplitl [Hid]; · iexact Hid
    isplitl [Hcm]; · iexact Hcm
    isplitl [Hot]; · iexact Hot
    iexact Hp
  isplitl [HO]; · iapply (owes_in (dat1 m c) t1_0.succ 0 (owed1_last m c) rfl W'); iexact HO
  isplitl [H0]; · iapply (Entails.of_eq (owns_whole (c : Thread nD τ) cc1_stg0_0 fullShare (sC m c)).symm) $$ H0
  isplitl [H1]; · iapply (Entails.of_eq (owns_whole (c : Thread nD τ) cc1_stg1_0 fullShare (qC m c)).symm) $$ H1
  iapply (Entails.of_eq (owns_whole (c : Thread nD τ) cc1_stg2_0 fullShare (mrC m c)).symm) $$ H2

/-! ## Opening and closing -/

theorem fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fin4 (Φ : Dev nD → sProp 𝕄) : bigSep Finset.univ Φ = iprop(Φ 0 ∗ Φ 1 ∗ Φ 2 ∗ Φ 3) :=
  bigSep_univ_eq_bigSepL [0, 1, 2, 3] (by decide) (by decide) Φ

/-- A family over the exchange's semaphores of a device: over its send cells, then its receive cells from its own on. -/
theorem eight (c : Dev nD) (f : GSem nD τ sig → sProp 𝕄) :
    bigSep Finset.univ (fun k : Fin 8 => f ((c : Thread nD τ), osem1 k))
      ⊣⊢ iprop((f (sendCell c 0) ∗ f (sendCell c 1) ∗ f (sendCell c 2) ∗ f (sendCell c 3))
        ∗ (f (recvCell c c) ∗ f (recvCell c (pk 1 c)) ∗ f (recvCell c (pk 2 c)) ∗ f (recvCell c (pk 3 c)))) := by
  rw [← comm_slots c (fun s => f (recvCell c s)), fin4, fin8]
  constructor
  · iintro ⟨H0, H1, H2, H3, H4, H5, H6, H7⟩
    isplitl [H0 H1 H2 H3]
    · isplitl [H0]; · iexact H0
      isplitl [H1]; · iexact H1
      isplitl [H2] <;> iassumption
    isplitl [H4]; · iexact H4
    isplitl [H5]; · iexact H5
    isplitl [H6] <;> iassumption
  · iintro ⟨⟨H0, H1, H2, H3⟩, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption

theorem regroup (a0 a1 a2 a3 b0 b1 b2 b3 : sProp 𝕄) :
    iprop(((a1 ∗ a2 ∗ a3) ∗ (b1 ∗ b2 ∗ b3)) ∗ (a0 ∗ b0)) ⊣⊢ iprop((a0 ∗ a1 ∗ a2 ∗ a3) ∗ (b0 ∗ b1 ∗ b2 ∗ b3)) := by
  constructor
  · iintro ⟨⟨⟨H1, H2, H3⟩, H5, H6, H7⟩, H0, H4⟩
    isplitl [H0 H1 H2 H3]
    · isplitl [H0]; · iexact H0
      isplitl [H1]; · iexact H1
      isplitl [H2] <;> iassumption
    isplitl [H4]; · iexact H4
    isplitl [H5]; · iexact H5
    isplitl [H6] <;> iassumption
  · iintro ⟨⟨H0, H1, H2, H3⟩, H4, H5, H6, H7⟩
    isplitl [H1 H2 H3 H5 H6 H7]
    · isplitl [H1 H2 H3]
      · isplitl [H1]; · iexact H1
        isplitl [H2] <;> iassumption
      isplitl [H5]; · iexact H5
      isplitl [H6] <;> iassumption
    isplitl [H0] <;> iassumption

theorem own_sems (c : Dev nD) : (Pipeline.ownSems0 osem1 c : sProp 𝕄) ⊣⊢ iprop(shut c ∗ idle c) := by
  have h := eight c (fun g => (semVal g 0 : sProp 𝕄))
  have r := regroup (F := F) (semVal (sendCell c 0) 0) (semVal (sendCell c 1) 0) (semVal (sendCell c 2) 0) (semVal (sendCell c 3) 0)
    (semVal (recvCell c c) 0) (semVal (recvCell c (pk 1 c)) 0) (semVal (recvCell c (pk 2 c)) 0) (semVal (recvCell c (pk 3 c)) 0)
  exact ⟨h.1.trans r.2, r.1.trans h.2⟩

/-- One dormant cell opened. -/
theorem open_cell (A : Comm F) (K : GSem nD τ sig → ℕ) {g : GSem nD τ sig} (hg : g ∈ (barCells ∪ scCells : Finset (GSem nD τ sig))) :
    iprop(records A K ∗ openTok ER g ∗ semVal g 0) ⊢ (|={Set.univ}=> openAt g : sProp 𝕄) := by
  iintro ⟨#HR, Ho, Hs⟩
  ihave #HI := (inv_at A K hg) $$ HR
  unfold openAt
  iapply (Rounds.cell_open ER (talkRd A) (g := g) (Set.mem_univ (K g)))
  isplitr; · iexact HI
  isplitl [Ho] <;> iassumption

theorem hopen1 (c : Dev nD) : iprop(Tk m c ∗ Pipeline.ownSems0 osem1 c ∗ levAts L lv) ⊢ (|={Set.univ}=> Xk m c : sProp 𝕄) := by
  unfold Tk Xk ghost
  iintro ⟨⟨⟨%K, #HR, HatB, ⟨Ho1, Ho2, Ho3⟩, ⟨Hq1, Hq2, Hq3⟩, Htok⟩, Hcr⟩, Hos, #Hlev⟩
  ihave Hos := (own_sems (F := F) c).1 $$ Hos
  unfold shut
  icases Hos with ⟨⟨⟨Hs1, Hs2, Hs3⟩, Hv1, Hv2, Hv3⟩, Hid⟩
  imod (open_cell (comm m) K (send_mem c 1)) $$ [Ho1 Hs1] with Ha1
  · isplitr; · iexact HR
    isplitl [Ho1] <;> iassumption
  imod (open_cell (comm m) K (send_mem c 2)) $$ [Ho2 Hs2] with Ha2
  · isplitr; · iexact HR
    isplitl [Ho2] <;> iassumption
  imod (open_cell (comm m) K (send_mem c 3)) $$ [Ho3 Hs3] with Ha3
  · isplitr; · iexact HR
    isplitl [Ho3] <;> iassumption
  imod (open_cell (comm m) K (recv_mem c (pk 1 c))) $$ [Hq1 Hv1] with Hb1
  · isplitr; · iexact HR
    isplitl [Hq1] <;> iassumption
  imod (open_cell (comm m) K (recv_mem c (pk 2 c))) $$ [Hq2 Hv2] with Hb2
  · isplitr; · iexact HR
    isplitl [Hq2] <;> iassumption
  imod (open_cell (comm m) K (recv_mem c (pk 3 c))) $$ [Hq3 Hv3] with Hb3
  · isplitr; · iexact HR
    isplitl [Hq3] <;> iassumption
  imodintro
  isplitl [HatB Ha1 Ha2 Ha3 Hb1 Hb2 Hb3 Htok]
  · iexists K; unfold opened
    isplitr; · iexact HR
    isplitl [HatB]; · iexact HatB
    isplitl [Ha1 Ha2 Ha3]
    · isplitl [Ha1]; · iexact Ha1
      isplitl [Ha2] <;> iassumption
    isplitl [Hb1 Hb2 Hb3]
    · isplitl [Hb1]; · iexact Hb1
      isplitl [Hb2] <;> iassumption
    iexact Htok
  isplitl [Hcr]; · iexact Hcr
  isplitr; · iexact Hlev
  iexact Hid

theorem hin1 (c : Dev nD) (X : sProp 𝕄) :
    iprop(Pipeline.scopedRest (Ix := Unit) (Name := ℕ) (U := UU) (Lvl := ℕ) (Val := Elt F) spec1 c ∗ (∃ r, prngReg c r) ∗ X ∗ Xk m c) ⊢ (dat1 m c).Φ 0 := by
  rw [Φ1_zero]
  iintro ⟨Hs, Hp, -, HX⟩
  ihave Hs := (rest_eq (F := F) c).1 $$ Hs
  icases Hs with ⟨Hcm, Hot⟩
  unfold Φ1a
  isplitl [HX]; · iexact HX
  isplitl [Hcm]; · iexact Hcm
  isplitl [Hot] <;> iassumption

theorem hout1 (c : Dev nD) : (dat1 m c).Φ (Fin.last cfg1.N)
    ⊢ iprop(Pipeline.scopedRest (Ix := Unit) (Name := ℕ) (U := UU) (Lvl := ℕ) (Val := Elt F) spec1 c ∗ (∃ r, prngReg c r)
      ∗ emp ∗ Pipeline.ownSems0 osem1 c ∗ semVal (barCell c) 0) := by
  rw [Φ1_last]
  unfold Φ1b
  iintro ⟨Hb, Hsh, Hid, Hcm, Hot, Hp⟩
  isplitl [Hcm Hot]
  · iapply (rest_eq (F := F) c).2
    isplitl [Hcm] <;> iassumption
  isplitl [Hp]; · iexact Hp
  isplitr; · iempintro
  isplitl [Hsh Hid]
  · iapply (own_sems (F := F) c).2
    isplitl [Hsh] <;> iassumption
  iexact Hb

end Cert.KernelIdeal.Norm

end
-- ==== Proof.Norm.Records.lean ====
/- The three regions as records of the launch kit, and the thread states they are entered from and left at. -/
module

public import proofs.«01_k».proof.Proof.Norm.Region1
public import Idealize.ShloMosaic.Lib.Pipeline.RegionTalk

@[expose] public section

set_option maxRecDepth 16384

noncomputable section

namespace Cert.KernelIdeal.Norm

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

attribute [local irreducible] mrC sC qC xarr gRow bRow

variable (m : (ℓ : Loc nD τ sig) → Buf (Elt F) ℓ)

/-! ## The thread states -/

/-- Beside the buffers, before the exchange: what it runs on, and its dues. -/
def Eb (c : Dev nD) : sProp 𝕄 := iprop(Tk m c ∗ (∃ r, prngReg c r) ∗ ∃ Wd, owes (c : Thread nD τ) (O₀ c) Wd)
/-- After it: the barrier's counter, back at zero, and nothing due. -/
def Ea (c : Dev nD) : sProp 𝕄 := iprop(semVal (barCell c) 0 ∗ (∃ r, prngReg c r) ∗ ∃ Wd, owes (c : Thread nD τ) (0 : CellTallies nD τ sig Unit) Wd)

/-- The buffers outside the regions, at contents `V`. -/
abbrev bufsAt (c : Dev nD) (V : Valuation τ sig (Elt F)) : sProp 𝕄 := StableHlo.held (c : Thread nD τ) (Pipeline.ucRefs τ sig) V

/-! ## The proof data of the three regions -/

/-- With each region's data exact. -/
def pdats : (p : Fin 3) → (c : Dev nD) → Dat τ (Elt F) Unit ℕ UU ℕ (cfgs p) c
  | 0 => dat0 m
  | 1 => dat1 m
  | 2 => dat2 m

/-- With the first region's tables held to the rows stored so far. -/
def rdats : (p : Fin 3) → (c : Dev nD) → RDat τ (Elt F) Unit ℕ UU ℕ (cfgs p) c
  | 0 => rdat0 m
  | 1 => fun c => (dat1 m c).toR
  | 2 => fun c => (dat2 m c).toR

set_option backward.isDefEq.respectTransparency.types false in
theorem kit (p : Fin 3) : Pipeline.PLaunchFacts (nD := nD) (τ := τ) (pcfgs (F := F)) p :=
  match p with
  | 0 => launch0.toP
  | 1 => launch1.toP
  | 2 => launch2.toP

theorem arr_mem {gr W : ℕ} (win : Fin W → Pipeline.WinSpec sig gr) (w : Fin W) :
    (Proc.devRef .tc (Pipeline.arrRef win w) : DevRef τ sig) ∈ Pipeline.arrRefs (τ := τ) win :=
  Finset.mem_map_of_mem _ (Finset.mem_image_of_mem _ (Finset.mem_univ w))

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem sub2 : Pipeline.arrRefs (τ := τ) spec2 ⊆ Pipeline.ucRefs τ sig := Pipeline.arrRefs_sub_ucRefs spec2 (by decide)

theorem rest0 (c : Dev nD) (b : DevRef τ sig) (hb : b ∈ Pipeline.ucRefs τ sig \ Pipeline.arrRefs (τ := τ) spec0) :
    V1 m (outsAll m) c b = V0 m c b := by
  have h := (Finset.mem_sdiff.mp hb).2
  show Function.update (Function.update (Function.update _ _ _) _ _) _ _ b = _
  rw [Function.update_of_ne (show b ≠ Proc.devRef .tc main_v1_2 from fun e => h (by rw [e]; exact arr_mem spec0 3)), Function.update_of_ne (show b ≠ Proc.devRef .tc main_v1_1 from fun e => h (by rw [e]; exact arr_mem spec0 2)),
    Function.update_of_ne (show b ≠ Proc.devRef .tc main_v1_0 from fun e => h (by rw [e]; exact arr_mem spec0 1))]
theorem rest1 (c : Dev nD) (b : DevRef τ sig) (hb : b ∈ Pipeline.ucRefs τ sig \ Pipeline.arrRefs (τ := τ) spec1) :
    V2 m (outsAll m) c b = V1 m (outsAll m) c b := by
  have h := (Finset.mem_sdiff.mp hb).2
  show Function.update _ _ _ b = _
  rw [Function.update_of_ne (show b ≠ Proc.devRef .tc main_v2 from fun e => h (by rw [e]; exact arr_mem spec1 2))]
theorem rest2 (c : Dev nD) (b : DevRef τ sig) (hb : b ∈ Pipeline.ucRefs τ sig \ Pipeline.arrRefs (τ := τ) spec2) :
    V4 m (outsAll m) c b = V3 m (outsAll m) c b := by
  have h := (Finset.mem_sdiff.mp hb).2
  show Function.update _ _ _ b = _
  rw [Function.update_of_ne (show b ≠ Proc.devRef .tc main_v5 from fun e => h (by rw [e]; exact arr_mem spec2 4))]

/-! ## What the arrays hold -/

theorem A0 (c : Dev nD) (w : Fin cfg0.W) : (dat0 m c).A w = V0 m c (Proc.devRef .tc (Pipeline.arrRef spec0 w)) := rfl

theorem V1_0 (c : Dev nD) : V1 m (outsAll m) c main_arg0 = m ((c : Thread nD τ).loc main_arg0) :=
  (V1_of m (outsAll m) c main_arg0 (by decide)).trans rfl

set_option backward.isDefEq.respectTransparency.types false in
/-- What the first region leaves in its arrays is what the next thread state says. -/
theorem left0 (c : Dev nD) (w : Fin cfg0.W) (G) (h : (rdat0 m c).ArrAt w cfg0.N G) :
    G = V1 m (outsAll m) c (Proc.devRef .tc (Pipeline.arrRef spec0 w)) := by
  match w, G, h with
  | ⟨0, _⟩, G, h =>
    have e := (((dat0 m c).toR.override_arrAt (by rfl) cfg0.N G).trans ((dat0 m c).toR_arrAt_iff 0 cfg0.N G)).mp h
    exact (e.trans ((dat0 m c).arrAt_in 0 rfl cfg0.N)).trans (V1_0 m c).symm
  | ⟨1, _⟩, G, h =>
    have e := (((dat0 m c).toR.override_arrAt (by rfl) cfg0.N G).trans ((dat0 m c).toR_arrAt_iff 1 cfg0.N G)).mp h
    exact (e.trans (final0_1 m c)).trans (V1_x m c).symm
  | ⟨2, _⟩, G, h => exact (final0_2 m c G h).trans (V1_s m c).symm
  | ⟨3, _⟩, G, h => exact (final0_3 m c G h).trans (V1_q m c).symm

theorem in1 (c : Dev nD) (w : Fin cfg1.W) : (dat1 m c).A w = V1 m (outsAll m) c (Proc.devRef .tc (Pipeline.arrRef spec1 w)) := by
  match w with
  | ⟨0, _⟩ => exact (V1_s m c).symm
  | ⟨1, _⟩ => exact (V1_q m c).symm
  | ⟨2, _⟩ => exact (V1_of m (outsAll m) c main_v2 (by decide)).symm
theorem left1 (c : Dev nD) (w : Fin cfg1.W) : (dat1 m c).arrAt w cfg1.N = V2 m (outsAll m) c (Proc.devRef .tc (Pipeline.arrRef spec1 w)) := by
  match w with
  | ⟨0, _⟩ => exact ((dat1 m c).arrAt_in 0 rfl cfg1.N).trans ((V1_s m c).symm.trans (V2_of m (outsAll m) c main_v1_1 (by decide)).symm)
  | ⟨1, _⟩ => exact ((dat1 m c).arrAt_in 1 rfl cfg1.N).trans ((V1_q m c).symm.trans (V2_of m (outsAll m) c main_v1_2 (by decide)).symm)
  | ⟨2, _⟩ => exact (final1_2 m c).trans (V2_mr m c).symm

theorem V3_g (c : Dev nD) : V3 m (outsAll m) c main_v3 = gRow m c := by unfold gRow; rfl
theorem V3_b (c : Dev nD) : V3 m (outsAll m) c main_v4 = bRow m c := by unfold bRow; rfl

theorem in2 (c : Dev nD) (w : Fin cfg2.W) : (dat2 m c).A w = V3 m (outsAll m) c (Proc.devRef .tc (Pipeline.arrRef spec2 w)) := by
  match w with
  | ⟨0, _⟩ => exact (((V3_of m (outsAll m) c main_v1_0 (by decide)).trans (V2_of m (outsAll m) c main_v1_0 (by decide))).trans (V1_x m c)).symm
  | ⟨1, _⟩ => exact ((V3_of m (outsAll m) c main_v2 (by decide)).trans (V2_mr m c)).symm
  | ⟨2, _⟩ => exact (V3_g m c).symm
  | ⟨3, _⟩ => exact (V3_b m c).symm
  | ⟨4, _⟩ => exact (((V3_of m (outsAll m) c main_v5 (by decide)).trans (V2_of m (outsAll m) c main_v5 (by decide))).trans (V1_of m (outsAll m) c main_v5 (by decide))).symm

theorem V4_y (c : Dev nD) : V4 m (outsAll m) c main_v5 = (dat2 m c).arrAt 4 cfg2.N := by
  show Function.update _ _ _ _ = _
  rw [Function.update_self]
  exact final2_4 m c

theorem left2 (c : Dev nD) (w : Fin cfg2.W) : (dat2 m c).arrAt w cfg2.N = V4 m (outsAll m) c (Proc.devRef .tc (Pipeline.arrRef spec2 w)) := by
  match w with
  | ⟨0, _⟩ => exact ((dat2 m c).arrAt_in 0 rfl cfg2.N).trans ((in2 m c 0).trans (V4_of m (outsAll m) c main_v1_0 (by decide)).symm)
  | ⟨1, _⟩ => exact ((dat2 m c).arrAt_in 1 rfl cfg2.N).trans ((in2 m c 1).trans (V4_of m (outsAll m) c main_v2 (by decide)).symm)
  | ⟨2, _⟩ => exact ((dat2 m c).arrAt_in 2 rfl cfg2.N).trans ((in2 m c 2).trans (V4_of m (outsAll m) c main_v3 (by decide)).symm)
  | ⟨3, _⟩ => exact ((dat2 m c).arrAt_in 3 rfl cfg2.N).trans ((in2 m c 3).trans (V4_of m (outsAll m) c main_v4 (by decide)).symm)
  | ⟨4, _⟩ => exact (V4_y m c).symm

/-! ## Levels -/

theorem O₀_cut (c : Dev nD) (g : GSem nD τ sig) (i : Unit) (h : 0 < O₀ c g i) : i ∈ L g ∧ (0 : ℕ) < lv g i := by
  rcases O₀_pos h with ⟨k, rfl⟩ | ⟨k, rfl⟩
  · exact ⟨by rw [L_tc]; exact Finset.mem_singleton_self _, by rw [lv_recv]; decide⟩
  · exact ⟨by rw [L_tc]; exact Finset.mem_singleton_self _, by rw [lv_bar]; decide⟩

theorem cut0 (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf), role (.dma ((cfg0.win w).sem s)) = .other := by decide
  unfold lv; rw [h w s]
theorem cut1 (c : Dev nD) (w : Fin cfg1.W) (s : Fin (cfg1.win w).nbuf) : lv ((c : Thread nD τ), .dma ((cfg1.win w).sem s)) () ≤ 0 := by
  have h : ∀ (w : Fin cfg1.W) (s : Fin (cfg1.win w).nbuf), role (.dma ((cfg1.win w).sem s)) = .other := by decide
  unfold lv; rw [h w s]
theorem cut2 (c : Dev nD) (w : Fin cfg2.W) (s : Fin (cfg2.win w).nbuf) : lv ((c : Thread nD τ), .dma ((cfg2.win w).sem s)) () ≤ 0 := by
  have h : ∀ (w : Fin cfg2.W) (s : Fin (cfg2.win w).nbuf), role (.dma ((cfg2.win w).sem s)) = .other := by decide
  unfold lv; rw [h w s]
theorem L_mem (c : Dev nD) (sm : SemLoc sig) : () ∈ L ((c : Thread nD τ), sm) := by rw [L_tc]; exact Finset.mem_singleton_self _

/-! ## The records -/

/-- What goes by the first region. -/
def by0 (c : Dev nD) : sProp 𝕄 :=
  iprop(StableHlo.held (c : Thread nD τ) (Pipeline.ucRefs τ sig \ Pipeline.arrRefs (τ := τ) spec0) (V0 m c) ∗ Tk m c ∗ ∃ r, prngReg c r)

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl
theorem share2 (c : Dev nD) (w : Fin cfg2.W) : (dat2 m c).share w = fullShare := by unfold Dat.share; split <;> rfl

theorem arrays0 (c : Dev nD) (G) (W : Valuation τ sig (Elt F)) (hG : ∀ w, G w = W (Proc.devRef .tc (Pipeline.arrRef spec0 w))) :
    ((dat0 m c).arrays G : sProp 𝕄) = StableHlo.held (c : Thread nD τ) (Pipeline.arrRefs (τ := τ) spec0) W :=
  Pipeline.arrays_held (pcfgs (F := F)) adm (pdats m) 0 (kit 0) c (share0 m c) G W hG

/-- The arrays as the first region leaves them. -/
theorem exit0 (c : Dev nD) : ((rdat0 m c).arraysAt cfg0.N : sProp 𝕄)
    ⊢ StableHlo.held (c : Thread nD τ) (Pipeline.arrRefs (τ := τ) spec0) (V1 m (outsAll m) c) := by
  unfold RDat.arraysAt
  refine (BI.bigSep_exists_pi Finset.univ _).trans ?_
  iintro ⟨%A, H⟩
  ihave H' := (BI.bigSep_pure_sep Finset.univ (fun w => (rdat0 m c).ArrAt w cfg0.N (A w)) _) $$ H
  icases H' with ⟨%hA, H⟩
  iapply (show ((dat0 m c).arrays A : sProp 𝕄) ⊢ _ from Entails.of_eq (arrays0 m c A _ fun w => left0 m c w (A w) (hA w (Finset.mem_univ w))))
  unfold Dat.arrays
  iexact H

set_option backward.isDefEq.respectTransparency.types false in
def reg0 : RDat.RegionSeg (pcfgs (F := F)) adm (rdats m) () defs₀ 𝒱₀ L lv 0 where
  win := (kit (F := F) 0).to₀.win
  block_pos := (kit (F := F) 0).to₀.block_pos
  stage_whole := (kit (F := F) 0).to₀.stage_whole
  K := PEmpty
  osem k := k.elim
  ho := Pipeline.OwnSemFacts.none _
  hbody c := (body0 m c).toRRel
  hwaits c := RDat.cellsWaits_of_cut (Pipeline.pin (pcfgs (F := F)) adm) (rdats m) () 0 c 0 (O₀ c) (fun _ => rfl) (fun w s => L_mem c _) (fun w s => cut0 c w s) (fun g i h => O₀_cut c g i h)
  pre c := iprop(bufsAt c (V0 m c) ∗ Eb m c)
  post c := iprop(bufsAt c (V1 m (outsAll m) c) ∗ Eb m c)
  X _ := iprop(emp)
  Y _ := iprop(emp)
  Z c := by0 m c
  hentry c := by
    show _ ⊢ |={Set.univ}=> iprop((dat0 m c).arrays (dat0 m c).A ∗ Pipeline.prefHeld (pcfgs (F := F) 0).pre c (fun _ => fullShare) (adm (F := F) 0).1 ∗ (dat0 m c).owesAt () 0 ∗ emp ∗ by0 m c)
    rw [Pipeline.prefHeld_of_none _ rfl, arrays0 m c _ (V0 m c) (A0 m c)]
    unfold bufsAt Eb by0
    rw [StableHlo.held_sub_split (c : Thread nD τ) sub0 (V0 m c)]
    iintro ⟨⟨⟨Ha, Hr⟩, HT, Hp, ⟨%Wd, HO⟩⟩, -, -⟩
    imodintro
    isplitl [Ha]; · iexact Ha
    isplitr; · iempintro
    isplitl [HO]
    · unfold Dat.owesAt Pipeline.owesWithin
      iexists Wd; isplitr; · ipureintro; exact fun _ _ => Or.inl trivial
      iexact HO
    isplitr; · iempintro
    isplitl [Hr]; · iexact Hr
    isplitl [HT] <;> iassumption
  hin c := by
    show _ ⊢ Pipeline.scopedRest spec0 c
    iintro ⟨-, -, H⟩; iexact H
  hout c := by
    show Pipeline.scopedRest spec0 c ⊢ iprop(emp ∗ Pipeline.ownSems0 _ c ∗ Pipeline.scopedRest spec0 c)
    iintro H
    isplitr; · iempintro
    isplitr; · unfold Pipeline.ownSems0; rw [Finset.univ_eq_empty, BI.bigSep_empty]; iempintro
    iexact H
  hexit c := by
    show iprop((rdat0 m c).arraysAt cfg0.N ∗ (dat0 m c).owesAt () (Fin.last cfg0.N) ∗ emp ∗ by0 m c) ⊢ _
    unfold bufsAt Eb by0
    rw [StableHlo.held_sub_split (c : Thread nD τ) sub0 (V1 m (outsAll m) c), StableHlo.held_congr (c : Thread nD τ) (S := Pipeline.ucRefs τ sig \ Pipeline.arrRefs (τ := τ) spec0) (rest0 m c)]
    iintro ⟨Ha, HO, -, Hr, HT, Hp⟩
    ihave Ha := (exit0 m c) $$ Ha
    imodintro
    isplitl [Ha Hr]
    · isplitl [Ha] <;> iassumption
    isplitl [HT]; · iexact HT
    isplitl [Hp]; · iexact Hp
    unfold Dat.owesAt Pipeline.owesWithin
    icases HO with ⟨%Wd, -, HO⟩; iexists Wd; iexact HO

theorem held_none (c : Dev nD) (W : Valuation τ sig (Elt F)) : (StableHlo.held (c : Thread nD τ) ∅ W : sProp 𝕄) = BI.emp := by
  unfold StableHlo.held
  exact BI.bigSep_empty

/-- What the exchange body is due at a point lies above its pipeline's cells. -/
theorem owed1_cut (c : Dev nD) (t : Fin (cfg1.N + 1)) (g : GSem nD τ sig) (i : Unit) (h : 0 < (dat1 m c).owed t g i) : i ∈ L g ∧ (0 : ℕ) < lv g i := by
  have e : (dat1 m c).owed t = if t.val = 0 then O₀ c else 0 := rfl
  rw [e] at h
  split at h
  · exact O₀_cut c g i h
  · exact absurd h (Nat.lt_irrefl 0)

theorem hout1' (c : Dev nD) : (dat1 m c).Φ (Fin.last cfg1.N)
    ⊢ iprop(Pipeline.scopedRest (Ix := Unit) (Name := ℕ) (U := UU) (Lvl := ℕ) (Val := Elt F) spec1 c ∗ (∃ r, prngReg c r)
      ∗ StableHlo.held (c : Thread nD τ) ∅ (V2 m (outsAll m) c) ∗ Pipeline.ownSems0 osem1 c ∗ semVal (barCell c) 0) := by
  rw [held_none]
  exact hout1 m c

set_option backward.isDefEq.respectTransparency.types false in
/-- The exchange's region, of exact data. -/
def reg1e : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    ∅ (Pipeline.ucRefs τ sig \ Pipeline.arrRefs (τ := τ) spec1) (Finset.empty_subset _) (kit 1) rfl (fun c => (body1 m c).loose)
    (fun _ => 0) O₀ (fun c => (owed1_first m c).trans (zero_add _).symm) (owed1_last m) (fun _ => rfl) (share1 m)
    (V1 m (outsAll m)) (V2 m (outsAll m)) (fun c b hb => rest1 m c b (Finset.mem_sdiff.mp hb).1)
    (Tk m) (fun c => semVal (barCell c) 0) (Xk m) (fun c => semVal (barCell c) 0) (hopen1 m) (fun c => hin1 m c _) (hout1' m)
    (fun c => by iintro H; imodintro; iexact H)
    (fun _ => 0)
    ⟨fun c w s => L_mem c _, fun c w s => cut1 c w s, fun c t g i h => owed1_cut m c t g i h⟩
    (fun _ => iprop(emp))
    (in1 m) (left1 m)

set_option backward.isDefEq.respectTransparency.types false in
/-- The normalising region, of exact data. -/
def reg2e : Pipeline.RegionSeg (pcfgs (F := F)) adm (pdats m) () defs₀ 𝒱₀ L lv 2 :=
  Pipeline.RegionSeg.ofHeld (pcfgs (F := F)) adm (pdats m) () defs₀ 𝒱₀ L lv 2 (fun _ => 0) (fun _ => iprop(emp)) (fun _ => iprop(emp)) (kit 2) rfl
    (fun c => (body2 m c).loose) (fun _ _ => rfl) (fun _ => rfl) (share2 m)
    (fun c => by
      show _ ⊢ Pipeline.scopedRest spec2 c
      iintro ⟨H, -⟩; iexact H)
    (fun c => by
      show Pipeline.scopedRest spec2 c ⊢ iprop(Pipeline.scopedRest spec2 c ∗ emp)
      iintro H; isplitl [H]; · iexact H
      iempintro)
    (fun _ => 0) ⟨fun c w s => L_mem c _, fun c w s => cut2 c w s, fun c g i h => absurd h (Nat.lt_irrefl 0)⟩
    (fun c => iprop(StableHlo.held (c : Thread nD τ) (Pipeline.ucRefs τ sig \ Pipeline.arrRefs (τ := τ) spec2) (V3 m (outsAll m) c)
      ∗ semVal (barCell c) 0 ∗ ∃ r, prngReg c r))
    (V3 m (outsAll m)) (V4 m (outsAll m)) (in2 m) (left2 m)

set_option backward.isDefEq.respectTransparency.types false in
def reg1 : RDat.RegionSeg (pcfgs (F := F)) adm (rdats m) () defs₀ 𝒱₀ L lv 1 :=
  let R := (reg1e m).toR (pcfgs (F := F)) adm (pdats m) () defs₀ 𝒱₀ L lv
  { win := R.win, block_pos := R.block_pos, stage_whole := R.stage_whole, K := R.K, fK := R.fK, osem := R.osem, ho := R.ho, hbody := R.hbody,
    hwaits := R.hwaits, pre := R.pre, post := R.post, X := R.X, Y := R.Y, Z := R.Z, hentry := R.hentry, hin := R.hin, hout := R.hout, hexit := R.hexit }

set_option backward.isDefEq.respectTransparency.types false in
def reg2 : RDat.RegionSeg (pcfgs (F := F)) adm (rdats m) () defs₀ 𝒱₀ L lv 2 :=
  let R := (reg2e m).toR (pcfgs (F := F)) adm (pdats m) () defs₀ 𝒱₀ L lv
  { win := R.win, block_pos := R.block_pos, stage_whole := R.stage_whole, K := R.K, fK := R.fK, osem := R.osem, ho := R.ho, hbody := R.hbody,
    hwaits := R.hwaits, pre := R.pre, post := R.post, X := R.X, Y := R.Y, Z := R.Z, hentry := R.hentry, hin := R.hin, hout := R.hout, hexit := R.hexit }

theorem pre1 (c : Dev nD) : iprop(bufsAt c (V1 m (outsAll m) c) ∗ Eb m c) ⊢ (reg1 m).pre c := by
  show _ ⊢ iprop(StableHlo.held (c : Thread nD τ) (Pipeline.arrRefs (τ := τ) spec1) (V1 m (outsAll m) c) ∗ (∃ r, prngReg c r)
    ∗ (StableHlo.held (c : Thread nD τ) (Pipeline.ucRefs τ sig \ Pipeline.arrRefs (τ := τ) spec1) (V1 m (outsAll m) c) ∗ emp) ∗ Tk m c
    ∗ ∃ Wd, owes (c : Thread nD τ) (0 + O₀ c) Wd)
  unfold bufsAt Eb
  rw [StableHlo.held_sub_split (c : Thread nD τ) sub1 (V1 m (outsAll m) c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem post1 (c : Dev nD) : (reg1 m).post c ⊢ iprop(bufsAt c (V2 m (outsAll m) c) ∗ Ea (F := F) c) := by
  show iprop(StableHlo.held (c : Thread nD τ) (Pipeline.arrRefs (τ := τ) spec1) (V2 m (outsAll m) c) ∗ (∃ r, prngReg c r)
    ∗ (StableHlo.held (c : Thread nD τ) (Pipeline.ucRefs τ sig \ Pipeline.arrRefs (τ := τ) spec1) (V2 m (outsAll m) c) ∗ emp) ∗ semVal (barCell c) 0
    ∗ ∃ Wd, owes (c : Thread nD τ) (0 : CellTallies nD τ sig Unit) Wd) ⊢ _
  unfold bufsAt Ea
  rw [StableHlo.held_sub_split (c : Thread nD τ) sub1 (V2 m (outsAll m) c)]
  iintro ⟨Ha, Hp, ⟨Hr, -⟩, HT, HO⟩
  isplitl [Ha Hr]
  · isplitl [Ha] <;> iassumption
  isplitl [HT]; · iexact HT
  isplitl [Hp] <;> iassumption

theorem pre2 (c : Dev nD) : iprop(bufsAt c (V3 m (outsAll m) c) ∗ Ea (F := F) c) ⊢ (reg2 m).pre c := by
  show _ ⊢ iprop(StableHlo.held (c : Thread nD τ) (Pipeline.arrRefs (τ := τ) spec2) (V3 m (outsAll m) c) ∗ emp
    ∗ (StableHlo.held (c : Thread nD τ) (Pipeline.ucRefs τ sig \ Pipeline.arrRefs (τ := τ) spec2) (V3 m (outsAll m) c) ∗ semVal (barCell c) 0 ∗ ∃ r, prngReg c r)
    ∗ ∃ Wd, owes (c : Thread nD τ) (0 : CellTallies nD τ sig Unit) Wd)
  unfold bufsAt Ea
  rw [StableHlo.held_sub_split (c : Thread nD τ) sub2 (V3 m (outsAll m) c)]
  iintro ⟨⟨Ha, Hr⟩, HT, Hp, HO⟩
  isplitl [Ha]; · iexact Ha
  isplitr; · iempintro
  isplitr [HO]; swap; · iexact HO
  isplitl [Hr]; · iexact Hr
  isplitl [HT] <;> iassumption

/-- What the run leaves, beside what it still owes: nothing. -/
def Tn (c : Dev nD) : sProp 𝕄 := iprop(bufsAt c (V4 m (outsAll m) c) ∗ semVal (barCell c) 0)

theorem post2 (c : Dev nD) : (reg2 m).post c ⊢ iprop(Tn m c ∗ ∃ Wd, owes (c : Thread nD τ) (0 : CellTallies nD τ sig Unit) Wd) := by
  show iprop(StableHlo.held (c : Thread nD τ) (Pipeline.arrRefs (τ := τ) spec2) (V4 m (outsAll m) c) ∗ emp
    ∗ (StableHlo.held (c : Thread nD τ) (Pipeline.ucRefs τ sig \ Pipeline.arrRefs (τ := τ) spec2) (V3 m (outsAll m) c) ∗ semVal (barCell c) 0 ∗ ∃ r, prngReg c r)
    ∗ ∃ Wd, owes (c : Thread nD τ) (0 : CellTallies nD τ sig Unit) Wd) ⊢ _
  unfold Tn bufsAt
  rw [StableHlo.held_sub_split (c : Thread nD τ) sub2 (V4 m (outsAll m) c),
    StableHlo.held_congr (c : Thread nD τ) (S := Pipeline.ucRefs τ sig \ Pipeline.arrRefs (τ := τ) spec2) (rest2 m c)]
  iintro ⟨Ha, -, ⟨Hr, HT, -⟩, HO⟩
  isplitr [HO]; swap; · iexact HO
  isplitl [Ha Hr]
  · isplitl [Ha] <;> iassumption
  iexact HT

end Cert.KernelIdeal.Norm

end
-- ==== Proof.Norm.Run.lean ====
/- The launch of the four devices, and the run of the whole program. -/
module

public import proofs.«01_k».proof.Proof.Norm.Records
public import Idealize.ShloMosaic.Lib.Quiescent
public import Idealize.ShloMosaic.Harness.Basic

@[expose] public section

set_option maxRecDepth 16384

noncomputable section

namespace Cert.KernelIdeal.Norm

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

attribute [local irreducible] mrC sC qC xarr gRow bRow

variable (m : (ℓ : Loc nD τ sig) → Buf (Elt F) ℓ)

/-! ## The tokens of the exchange -/

/-- One for each device at each barrier cell. -/
def barTokEmb : Dev nD × Dev nD ↪ GSem nD τ sig × ℕ × Dev nD :=
  ⟨fun cd => (barCell cd.1, 0, cd.2), fun _ _ h => Prod.ext (congrArg (fun t : GSem nD τ sig × ℕ × Dev nD => t.1.1.1) h)
    (congrArg (fun t : GSem nD τ sig × ℕ × Dev nD => t.2.2) h)⟩
/-- One at each send and receive cell. -/
def scTokEmb : Dev nD × Fin 8 ↪ GSem nD τ sig × ℕ × Dev nD :=
  ⟨fun ck => (scEmb ck, 0, 0), fun _ _ h => scEmb.injective (congrArg (fun t : GSem nD τ sig × ℕ × Dev nD => t.1) h)⟩

abbrev barToks : Finset (GSem nD τ sig × ℕ × Dev nD) := Finset.univ.map barTokEmb
abbrev scToks : Finset (GSem nD τ sig × ℕ × Dev nD) := Finset.univ.map scTokEmb

theorem disjoint_toks : Disjoint barToks scToks := by
  rw [Finset.disjoint_left]
  rintro x h₁ h₂
  obtain ⟨c, -, rfl⟩ := Finset.mem_map.mp h₁
  obtain ⟨ck, -, h⟩ := Finset.mem_map.mp h₂
  exact osem1_ne_bar ck.2 (congrArg (fun t : GSem nD τ sig × ℕ × Dev nD => t.1.2) h)

/-- The tokens, each with the device that pays the duty. -/
theorem toks_dealt :
    bigSep (barToks ∪ scToks) (fun x => (dutyTok ER x.1 x.2.1 x.2.2 : sProp 𝕄)) ⊢ bigSep Finset.univ fun c : Dev nD => (payToks c : sProp 𝕄) := by
  have hb : bigSep barToks (fun x => (dutyTok ER x.1 x.2.1 x.2.2 : sProp 𝕄))
      = bigSep Finset.univ fun d : Dev nD => iprop(dutyTok ER (barCell d) 0 d ∗ dutyTok ER (barCell (pk 1 d)) 0 d ∗ dutyTok ER (barCell (pk 2 d)) 0 d ∗ dutyTok ER (barCell (pk 3 d)) 0 d) := by
    rw [bigSep_map, bigSep_univ_prod, BI.bigSep_univ_comm]
    exact bigSep_congr fun d _ => comm_slots d (fun c => (dutyTok ER (barCell c) 0 d : sProp 𝕄))
  have hs : bigSep scToks (fun x => (dutyTok ER x.1 x.2.1 x.2.2 : sProp 𝕄))
      ⊢ bigSep Finset.univ fun c : Dev nD => iprop((dutyTok ER (sendCell c 0) 0 0 ∗ dutyTok ER (sendCell c 1) 0 0 ∗ dutyTok ER (sendCell c 2) 0 0 ∗ dutyTok ER (sendCell c 3) 0 0)
        ∗ bigSep Finset.univ fun s : Dev nD => (dutyTok ER (recvCell c s) 0 0 : sProp 𝕄)) := by
    rw [bigSep_map, bigSep_univ_prod]
    refine bigSep_mono fun c _ => ?_
    rw [comm_slots c (fun s => (dutyTok ER (recvCell c s) 0 0 : sProp 𝕄))]
    exact (eight c (fun g => (dutyTok ER g 0 0 : sProp 𝕄))).1
  have hr : bigSep Finset.univ (fun c : Dev nD => bigSep Finset.univ fun s : Dev nD => (dutyTok ER (recvCell c s) 0 0 : sProp 𝕄))
      = bigSep Finset.univ fun d : Dev nD => iprop(dutyTok ER (recvCell d d) 0 0 ∗ dutyTok ER (recvCell (pk 1 d) d) 0 0 ∗ dutyTok ER (recvCell (pk 2 d) d) 0 0 ∗ dutyTok ER (recvCell (pk 3 d) d) 0 0) := by
    rw [BI.bigSep_univ_comm]
    exact bigSep_congr fun d _ => comm_slots d (fun c => (dutyTok ER (recvCell c d) 0 0 : sProp 𝕄))
  have hc (d : Dev nD) : iprop((dutyTok ER (barCell d) 0 d ∗ dutyTok ER (barCell (pk 1 d)) 0 d ∗ dutyTok ER (barCell (pk 2 d)) 0 d ∗ dutyTok ER (barCell (pk 3 d)) 0 d)
        ∗ (dutyTok ER (sendCell d 0) 0 0 ∗ dutyTok ER (sendCell d 1) 0 0 ∗ dutyTok ER (sendCell d 2) 0 0 ∗ dutyTok ER (sendCell d 3) 0 0)
        ∗ (dutyTok ER (recvCell d d) 0 0 ∗ dutyTok ER (recvCell (pk 1 d) d) 0 0 ∗ dutyTok ER (recvCell (pk 2 d) d) 0 0 ∗ dutyTok ER (recvCell (pk 3 d) d) 0 0))
      ⊢ (payToks d : sProp 𝕄) := by
    unfold payToks
    iintro ⟨⟨-, H1, H2, H3⟩, ⟨-, S1, S2, S3⟩, -, R1, R2, R3⟩
    isplitl [H1 H2 H3]
    · isplitl [H1]; · iexact H1
      isplitl [H2] <;> iassumption
    isplitl [R1 R2 R3]
    · isplitl [R1]; · iexact R1
      isplitl [R2] <;> iassumption
    isplitl [S1]; · iexact S1
    isplitl [S2] <;> iassumption
  rw [BI.bigSep_union disjoint_toks, hb]
  change iprop(_ ∗ _) ⊢ _
  iintro ⟨Hb, Hs⟩
  ihave Hs := hs $$ Hs
  ihave Hs := Smoke.bigSep_unpair $$ Hs
  icases Hs with ⟨Hs, Hr⟩
  ihave Hr := (Entails.of_eq hr) $$ Hr
  ihave Hsr := Smoke.bigSep_pair $$ [Hs Hr]
  · isplitl [Hs] <;> iassumption
  ihave H := Smoke.bigSep_pair $$ [Hb Hsr]
  · isplitl [Hb] <;> iassumption
  iapply (show (bigSep Finset.univ fun d : Dev nD => iprop((dutyTok ER (barCell d) 0 d ∗ dutyTok ER (barCell (pk 1 d)) 0 d ∗ dutyTok ER (barCell (pk 2 d)) 0 d ∗ dutyTok ER (barCell (pk 3 d)) 0 d)
        ∗ (dutyTok ER (sendCell d 0) 0 0 ∗ dutyTok ER (sendCell d 1) 0 0 ∗ dutyTok ER (sendCell d 2) 0 0 ∗ dutyTok ER (sendCell d 3) 0 0)
        ∗ (dutyTok ER (recvCell d d) 0 0 ∗ dutyTok ER (recvCell (pk 1 d) d) 0 0 ∗ dutyTok ER (recvCell (pk 2 d) d) 0 0 ∗ dutyTok ER (recvCell (pk 3 d) d) 0 0)))
      ⊢ (bigSep Finset.univ fun d : Dev nD => (payToks d : sProp 𝕄)) from bigSep_mono fun d _ => hc d) $$ H

/-! ## The launch credit -/

theorem tally_bar (c d : Dev nD) (n : ℕ) : (tallyAt (barCell d) () n : CellTallies nD τ sig Unit) (barCell c) () = if c = d then n else 0 := by
  rw [tallyAt_apply]
  by_cases h : c = d
  · subst h; rw [if_pos ⟨rfl, rfl⟩, if_pos rfl]
  · rw [if_neg h, if_neg (fun e => h (congrArg (fun g : GSem nD τ sig => g.1.1) e.1))]
theorem tally_bar_recv (c d s : Dev nD) (n : ℕ) : (tallyAt (recvCell d s) () n : CellTallies nD τ sig Unit) (barCell c) () = 0 := by
  rw [tallyAt_apply, if_neg]
  intro e
  have := congrArg (fun g : GSem nD τ sig => role g.2) e.1
  dsimp only at this
  rw [role_bar, role_recv] at this
  cases this
theorem tally_recv_bar (c s d : Dev nD) (n : ℕ) : (tallyAt (barCell d) () n : CellTallies nD τ sig Unit) (recvCell c s) () = 0 := by
  rw [tallyAt_apply, if_neg]
  intro e
  have := congrArg (fun g : GSem nD τ sig => role g.2) e.1
  dsimp only at this
  rw [role_bar, role_recv] at this
  cases this
theorem tally_recv (c s c' s' : Dev nD) (n : ℕ) :
    (tallyAt (recvCell c' s') () n : CellTallies nD τ sig Unit) (recvCell c s) () = n * if c = c' ∧ s = s' then 1 else 0 := by
  rw [tallyAt_apply]
  by_cases h : c = c' ∧ s = s'
  · obtain ⟨rfl, rfl⟩ := h; rw [if_pos ⟨rfl, rfl⟩, if_pos ⟨rfl, rfl⟩, Nat.mul_one]
  · rw [if_neg h, if_neg, Nat.mul_zero]
    intro e
    refine h ⟨congrArg (fun g : GSem nD τ sig => g.1.1) e.1, ?_⟩
    have := congrArg (fun g : GSem nD τ sig => role g.2) e.1
    dsimp only at this
    rw [role_recv, role_recv] at this
    injection this

theorem add_at (A B : CellTallies nD τ sig Unit) (g : GSem nD τ sig) : (A + B) g () = A g () + B g () := rfl

theorem owed_bar (d c : Dev nD) : O₀ d (barCell c) () = (if c = pk 3 d then 1 else 0) + (if c = pk 2 d then 1 else 0) + (if c = pk 1 d then 1 else 0) := by
  unfold O₀ OR oweR oweB
  simp only [add_at, tally_bar, tally_bar_recv, Nat.zero_add]
theorem owed_recv (d c s : Dev nD) : O₀ d (recvCell c s) ()
    = N * ((if c = pk 3 d ∧ s = d then 1 else 0) + (if c = pk 2 d ∧ s = d then 1 else 0) + (if c = pk 1 d ∧ s = d then 1 else 0)) := by
  unfold O₀ OR oweR oweB
  simp only [add_at, tally_recv, tally_recv_bar, Nat.add_zero, Nat.mul_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (k : Fin 4) (hk : k ≠ 0) (c : Dev nD) :
    tallyOn (recvCell c (pk k c)) (launchCredit (Pipeline.owing O₀) 0 (recvCell c (pk k c))) = (tallyAt (recvCell c (pk k c)) () N : CellTallies nD τ sig Unit) := by
  unfold tallyAt; refine congrArg _ (Finsupp.ext fun u => ?_); cases u
  rw [Pipeline.launchCredit_owing, Finsupp.single_eq_same, Finset.sum_congr rfl fun d _ => owed_recv d c (pk k c), ← Finset.mul_sum]
  have h : ∀ (k : Fin 4) (hk : k ≠ 0) (c : Dev nD), (∑ d : Dev nD, ((if c = pk 3 d ∧ pk k c = d then 1 else 0) + (if c = pk 2 d ∧ pk k c = d then 1 else 0) + (if c = pk 1 d ∧ pk k c = d then 1 else 0))) = 1 := by decide
  rw [h k hk c, Nat.mul_one]

theorem creds (c : Dev nD) : (Pipeline.launchCred O₀ c : sProp 𝕄) ⊢ credits c := by
  unfold Pipeline.launchCred
  rw [BI.bigSep_sdiff_split (t := {SemLoc.reg barrier0, .dma (rS (pk 1 c)), .dma (rS (pk 2 c)), .dma (rS (pk 3 c))}) (Finset.subset_univ _),
    BI.bigSep_insert (by revert c; decide), BI.bigSep_insert (by revert c; decide), BI.bigSep_insert (by revert c; decide), BI.bigSep_singleton]
  rw [launch_bar c, launch_recv 1 (by decide) c, launch_recv 2 (by decide) c, launch_recv 3 (by decide) c]
  unfold credits
  change iprop((_ ∗ _ ∗ _ ∗ _) ∗ _) ⊢ _
  iintro ⟨H, -⟩
  iexact H

/-! ## The launch -/

theorem sems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem sems_only : ∀ sm : SemLoc sig, sm.isScoped .tc = false → sm = .reg barrier0 := by decide

/-- The exchange's element and the pipelines'. -/
def launchX : UT := launchOf barCells scCells (barToks ∪ scToks)
def u₀ : UU := (initOf (Pipeline.cells (Pipeline.pin (pcfgs (F := F)) adm) cellOf_inj) (Pipeline.launchToks (Pipeline.pin (pcfgs (F := F)) adm) cellOf_inj), launchX)

/-- The exchange's element waits on device 0 for the step that deals it. -/
def atZero (X : sProp 𝕄) (c : Dev nD) : sProp 𝕄 := if c = 0 then X else iprop(emp)
theorem sep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- What a device has of the exchange from launch on, the records apart. -/
def dealt (c : Dev nD) : sProp 𝕄 :=
  iprop(atPos ER (barCell c) 0 ∅ 0
    ∗ bigSep Finset.univ (fun k : Fin 8 => openTok ER ((c : Thread nD τ), osem1 k))
    ∗ payToks c)

theorem ghost_of (A : Comm F) (K : GSem nD τ sig → ℕ) (c : Dev nD) : iprop(records A K ∗ dealt c) ⊢ (ghost A K c : sProp 𝕄) := by
  unfold dealt ghost
  iintro ⟨#HR, Hat, Ho, Ht⟩
  ihave Ho := (eight c (fun g => (openTok ER g : sProp 𝕄))).1 $$ Ho
  icases Ho with ⟨⟨-, S1, S2, S3⟩, -, R1, R2, R3⟩
  isplitr; · iexact HR
  isplitl [Hat]; · iexact Hat
  isplitl [S1 S2 S3]
  · isplitl [S1]; · iexact S1
    isplitl [S2] <;> iassumption
  isplitl [R1 R2 R3]
  · isplitl [R1]; · iexact R1
    isplitl [R2] <;> iassumption
  iexact Ht

abbrev T0 (c : Dev nD) : sProp 𝕄 := iprop(bufsAt c (V0 m c) ∗ Eb m c)

/-- The rest of what the launch hands a device. -/
def rest (c : Dev nD) : sProp 𝕄 :=
  iprop(bufsAt c (V0 m c) ∗ credits c ∗ (∃ r, prngReg c r) ∗ owes (c : Thread nD τ) (O₀ c) ∅)

theorem T0_of (K : GSem nD τ sig → ℕ) (c : Dev nD) : iprop(records (comm m) K ∗ (dealt c ∗ rest m c)) ⊢ T0 m c := by
  unfold T0 Eb Tk rest
  iintro ⟨#HR, Hd, Hh, Hc, Hp, HO⟩
  isplitl [Hh]; · iexact Hh
  isplitl [Hd Hc]
  · isplitl [Hd]
    · iexists K
      iapply (ghost_of (comm m) K c)
      isplitr; · iexact HR
      iexact Hd
    iexact Hc
  isplitl [Hp]; · iexact Hp
  iexists ∅; iexact HO

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero (BI.own (ER (F := F) launchX)) c)) ∗ levAts L lv)
      ⊢ (|={Set.univ}=> bigSep Finset.univ (T0 m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ atZero (BI.own (ER (F := F) launchX)) c)
      ⊢ (iprop(rest m c ∗ (semVal (barCell c) 0 ∗ atZero (BI.own (ER (F := F) launchX)) c)) : sProp 𝕄) := by
    rw [show (unscopedBufs c (fun b => m ((c : Thread nD τ).loc b)) : sProp 𝕄) = bufsAt c (V0 m c) from Pipeline.unscopedBufs_held c (V0 m c), sems_eq]
    unfold rest
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [Hp]; · iexists (ρ c); iexact Hp
      iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ (fun k : Fin 8 => (openTok ER ((c : Thread nD τ), osem1 k) : sProp 𝕄))) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero (BI.own (ER (F := F) launchX)) c))
      ⊢ (bigSep Finset.univ fun c : Dev nD => iprop(rest m c ∗ (semVal (barCell c) 0 ∗ atZero (BI.own (ER (F := F) launchX)) c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (atZero (BI.own (ER (F := F) launchX))) ⊢ BI.own (ER (F := F) (launchOf barCells scCells (barToks ∪ scToks))) from
    Entails.of_eq (sep_atZero (F := F) (BI.own (ER (F := F) launchX)))) $$ HG
  imod (Rounds.fund_launch ER (talkRd (comm m)) disjoint_cells (fun g _ h => h) (barToks ∪ scToks)) $$ [Hv Hu] with ⟨%κ, -, #Hinv, #Hr, Hat, Hopen, Htok⟩
  · isplitl [Hv]
    · iapply hv $$ Hv
    · iexact Hu
  imodintro
  iapply (bigSep_with_persistent (R := records (comm m) κ) (Φ := fun c => iprop(dealt c ∗ rest m c)) fun c _ => T0_of m κ c)
  isplitr
  · unfold records
    isplitr; · iexact Hinv
    iexact Hr
  iapply Smoke.bigSep_pair
  isplitr [HB]
  · unfold dealt
    iapply Smoke.bigSep_pair; isplitl [Hat]; · iapply hat $$ Hat
    iapply Smoke.bigSep_pair; isplitl [Hopen]; · iapply hopen $$ Hopen
    iapply (toks_dealt (F := F)) $$ Htok
  · iexact HB

/-! ## The run -/

/-- The host stretch between the exchange and the normalising region. -/
def host2 : Pipeline.HostSeg (Ix := Unit) (Name := ℕ) (U := UU) (Lvl := ℕ) (pcfgs (F := F)) defs₀ 𝒱₀ L lv :=
  seg2 m (outsAll m) 𝒱₀ L lv (fun _ => Ea)

/-- The program as its items. -/
abbrev items : List (RDat.Seg (pcfgs (F := F)) adm (rdats m) () defs₀ 𝒱₀ L lv) :=
  [.region (reg0 m), .region (reg1 m), .host (host2 m), .region (reg2 m)]

set_option backward.isDefEq.respectTransparency.types false in
/-- From any memory with zero counters every weakly fair execution terminates; at the end the arguments are as they were, the
    result's buffer holds the normalised blocks, and every counter is zero. -/
theorem run_main (ρ : Dev nD → PrngReg) : θ_run defs (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.mem ((c.tc : Thread nD τ).loc main_v5) = (dat2 m c).arrAt 4 cfg2.N) ∧ r.2.sem = fun _ => 0) :=
  RDat.θ_run_regions_kit_sems (pcfgs (F := F)) adm (rdats m) () cellOf_inj EP defs₀ 𝒱₀ L lv m ρ main (items m)
    (fun c Q => by
      rewrite [main_chain c, RDat.Seg.run_eq_chain,
        show (items m).map RDat.Seg.prog = [
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (by simp only [items, RDat.Seg.pipes_host, RDat.Seg.pipes_region, RDat.Seg.pipes_nil]; decide)
    (O₀ := O₀) (hL := L_of_ne) (G := atZero (BI.own (ER (F := F) launchX))) (u₀ := u₀ (F := F))
    (hu₀ := by
      unfold u₀
      iintro Hu
      ihave H := (ownU_pair _ _) $$ Hu
      icases H with ⟨HP, HX⟩
      imodintro
      isplitl [HP]; · iexact HP
      rw [sep_atZero]; iexact HX)
    (T₀ := T0 m) (Tₙ := Tn m)
    (hch := ⟨fun c => .rfl, fun c => pre1 m c, fun c => post1 m c, fun c => pre2 m c, fun c => post2 m c⟩)
    (hinit := init m ρ)
    (QY := fun c s => (∀ b ∈ Pipeline.ucRefs τ sig, s.mem ((c : Thread nD τ).1, b) = V4 m (outsAll m) c b) ∧ s.sem (barCell c) = 0)
    (hfin := fun c s' => by
      unfold Tn bufsAt StableHlo.held
      iintro ⟨⟨Hh, Hb0⟩, HSI⟩
      icombine HSI Hb0 gives %hb
      ihave Hr := (pointsTo_read_all (Pipeline.ucRefs τ sig) (fun b => ((c : Thread nD τ).1, b)) (V4 m (outsAll m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => ⟨⟨
        ((h c).1 (Proc.devRef .tc main_arg0) (Finset.mem_filter.mpr ⟨StableHlo.devRef_mem_tcRefs main_arg0, by decide⟩)).trans (V4_main_arg0 m (outsAll m) c),
        ((h c).1 (Proc.devRef .tc main_arg1) (Finset.mem_filter.mpr ⟨StableHlo.devRef_mem_tcRefs main_arg1, by decide⟩)).trans (V4_main_arg1 m (outsAll m) c),
        ((h c).1 (Proc.devRef .tc main_arg2) (Finset.mem_filter.mpr ⟨StableHlo.devRef_mem_tcRefs main_arg2, by decide⟩)).trans (V4_main_arg2 m (outsAll m) c)⟩,
        ((h c).1 (Proc.devRef .tc main_v5) (Finset.mem_filter.mpr ⟨StableHlo.devRef_mem_tcRefs main_v5, by decide⟩)).trans (V4_y m c)⟩,
      sem_eq_zero hs fun c sm hsm => by
        obtain rfl := sems_only sm hsm
        exact (h c).2⟩)

end Cert.KernelIdeal.Norm

end
-- ==== Proof.Norm.Frames.lean ====
/- The frames of the three programs: the kernel's two texts are one program at two float instances, so both follow from the run. -/
module

public import proofs.«01_k».proof.Defs
public import proofs.«01_k».proof.Proof.Gen.Kernel
public import proofs.«01_k».proof.Proof.Norm.Run
public import proofs.«01_k».proof.Proof.Gen.ReferenceIdeal.Run

@[expose] public section

noncomputable section

namespace Cert.Proof

open Idealize.ShloMosaic Idealize.SL.Sem

/-- The two texts' kernel bodies are the same, label by label. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, a => rfl
  | 1, a => rfl
  | 2, a => rfl

theorem tables_eq : Cert.Kernel.defs (F := Bits) = Cert.KernelIdeal.defs (F := Bits) := by
  unfold Cert.Kernel.defs Cert.KernelIdeal.defs
  exact congrArg _ bodies_eq

theorem frame_kernel : Cert.quiescent_Kernel := fun m ρ _ => by
  rw [tables_eq]
  exact (θ_run Cert.KernelIdeal.defs (onTc (τ := Cert.KernelIdeal.τ) (Cert.KernelIdeal.main (F := Bits))) ⟨m, fun _ => 0, ρ⟩).mono
    (fun _ h => ⟨fun c => (h.1 c).1, h.2⟩) (Cert.KernelIdeal.Norm.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Norm.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Norm.Equation.lean ====
/- Two ways to normalise a row of reals: from the sums of the entries and of their squares, and from the deviations. -/
module

public import Idealize.ShloMosaic.PureOps.Ideal

@[expose] public section

noncomputable section

namespace Cert.RowNorm

open Idealize.ShloMosaic

/-- The number of columns and the shift of the variance, as the two programs print them. -/
def cols : EReal := Ideal.ofBits .f32 0x46000000#32
def eps : EReal := Ideal.ofBits .f32 0x3727C5AC#32

/-- A mean from a row's sum, and a reciprocal deviation from the row's sum and its sum of squares. -/
def meanOf (S : EReal) : EReal := Ideal.div S cols
def rstdOf (S Q : EReal) : EReal := Ideal.rsqrt (meanOf Q - meanOf S * meanOf S + eps)

theorem cols_eq : cols = ((8192 : ℝ) : EReal) := by
  simp [cols, Ideal.ofBits, Ideal.ieee]
  rw [← EReal.coe_mul]
  norm_num

theorem eps_pos : ∃ e : ℝ, 0 < e ∧ eps = (e : EReal) := by
  simp [eps, Ideal.ofBits, Ideal.ieee]
  exact ⟨(10995116 : ℝ) * ((2 ^ 40 : ℝ))⁻¹, by positivity, by rw [EReal.coe_mul]⟩

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem meanOf_coe (S : ℝ) : meanOf (S : EReal) = ((S / 8192 : ℝ) : EReal) := by
  unfold meanOf
  rw [cols_eq, Ideal.div_coe (by norm_num), ← EReal.coe_mul]
  congr 1; ring

/-- The mean of the squares less the square of the mean is the mean of the squared deviations. -/
theorem variance (f : Fin 8192 → ℝ) :
    (∑ k, f k * f k) / 8192 - (∑ k, f k) / 8192 * ((∑ k, f k) / 8192)
      = (∑ k, (f k - (∑ k, f k) / 8192) * (f k - (∑ k, f k) / 8192)) / 8192 := by
  generalize hS : ∑ k, f k = S
  have h : ∀ k, (f k - S / 8192) * (f k - S / 8192) = f k * f k - 2 * (S / 8192) * f k + S / 8192 * (S / 8192) := fun k => by ring
  simp only [h]
  rw [Finset.sum_add_distrib, Finset.sum_sub_distrib, ← Finset.mul_sum, hS, Finset.sum_const, Finset.card_univ, Fintype.card_fin, nsmul_eq_mul]
  push_cast
  ring

/-- A row of reals normalised either way, then scaled and shifted by any extended reals. -/
theorem norm_eq (x : Fin 8192 → EReal) (hx : ∀ k, ∃ r : ℝ, x k = (r : EReal)) (g b : EReal) (j : Fin 8192) :
    (x j - meanOf (∑ k, x k)) * rstdOf (∑ k, x k) (∑ k, x k * x k) * g + b
      = Ideal.div (g * (x j - meanOf (∑ k, x k)))
          (Ideal.sqrt (meanOf (∑ k, (x k - meanOf (∑ k, x k)) * (x k - meanOf (∑ k, x k))) + eps)) + b := by
  choose f hf using hx
  obtain ⟨e, he, hE⟩ := eps_pos
  obtain rfl : x = fun k => (f k : EReal) := funext hf
  simp only [← EReal.coe_mul, ← coe_sum, meanOf_coe, ← EReal.coe_sub]
  unfold rstdOf
  rw [hE, meanOf_coe, meanOf_coe, ← EReal.coe_mul, ← EReal.coe_sub, ← EReal.coe_add, ← EReal.coe_add, variance f]
  generalize hv : (∑ k, (f k - (∑ k, f k) / 8192) * (f k - (∑ k, f k) / 8192)) / 8192 = v
  have hv0 : 0 ≤ v := by
    rw [← hv]
    exact div_nonneg (Finset.sum_nonneg fun k _ => mul_self_nonneg _) (by norm_num)
  have hp : 0 < v + e := by linarith
  have hs : Real.sqrt (v + e) ≠ 0 := (Real.sqrt_pos.mpr hp).ne'
  rw [Ideal.rsqrt_coe, Ideal.sqrt_coe, if_neg (not_lt.mpr hp.le), if_neg hp.ne', if_neg (not_lt.mpr hp.le), Ideal.div_coe hs, one_div]
  congr 1
  rw [mul_comm, mul_assoc]

end Cert.RowNorm

end
-- ==== Proof.Norm.Payloads.lean ====
/- The payloads at an index. -/
module

public import proofs.«01_k».proof.Proof.Norm.Run
public import proofs.«01_k».proof.Proof.Norm.Equation
public import Idealize.ShloMosaic.Lib.Pointwise

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

variable (m : (ℓ : Loc nD τ sig) → Buf (Elt F) ℓ)

/-! ## The statistics of a block of rows -/

/-- A row's sum: the row of ones against the block, contracted over the columns. -/
theorem rowSum_apply (v : Vec Ideal S1024x2048 .bf16) (j : Fin 1024) :
    k0_pay3 (F := Ideal) v (ix2 0 j) = ∑ k : Fin 2048, v (ix2 j k) := by
  pointwise [k0_pay3, k0_pay2, k0_pay1]

/-- A row's sum of squares. -/
theorem rowSquares_apply (v : Vec Ideal S1024x2048 .bf16) (j : Fin 1024) :
    k0_pay4 (F := Ideal) v (ix2 0 j) = ∑ k : Fin 2048, v (ix2 j k) * v (ix2 j k) := by
  pointwise [k0_pay4, k0_pay2, k0_pay1]

/-! ## The exchange's arithmetic -/

/-- The sum of four slots at an entry. -/
def sum4 (a b c d : Vec Ideal S1x16x1024 .f32) (k : Fin 16) (j : Fin 1024) : EReal :=
  a (ix3 0 k j) + b (ix3 0 k j) + c (ix3 0 k j) + d (ix3 0 k j)

theorem pay5_mean (a b c d : Vec Ideal S1x16x1024 .f32) (k : Fin 16) (hk : k.val < 8) (j : Fin 1024) :
    k1_pay5 (F := Ideal) (k1_pay4 a b) c d (ix2 k j) = RowNorm.meanOf (sum4 a b c d k j) := by
  pointwise [k1_pay5, k1_pay4]
  rw [dif_pos hk]; rfl

theorem pay5_rstd (a b c d : Vec Ideal S1x16x1024 .f32) (k : Fin 8) (j : Fin 1024) :
    k1_pay5 (F := Ideal) (k1_pay4 a b) c d (ix2 ⟨8 + k.val, by omega⟩ j)
      = RowNorm.rstdOf (sum4 a b c d ⟨k.val, by omega⟩ j) (sum4 a b c d ⟨8 + k.val, by omega⟩ j) := by
  pointwise [k1_pay5, k1_pay4]
  rfl

/-- One matrix entry of the identity: one on the diagonal, zero off it. -/
theorem eye_entry (a b : Fin 1024) :
    FloatOps.sitofp (F := Ideal) .f32 (BitVec.setWidth 32
      (IntOp.cmpi CmpIPredicate.eq (IntOp.addi (BitVec.ofNat 32 a.val) 0#32) (BitVec.ofNat 32 b.val)))
      = if a = b then (1 : EReal) else 0 := by
  have ha := a.isLt
  have hb := b.isLt
  by_cases h : a = b
  · subst h
    rw [if_pos rfl]
    simp [IntOp.cmpi, IntOp.addi]
    show (((1#32 : BitVec 32).toInt : ℝ) : EReal) = 1
    norm_num
  · rw [if_neg h]
    have hne : BitVec.ofNat 32 a.val ≠ BitVec.ofNat 32 b.val := by
      intro e
      have e' := congrArg BitVec.toNat e
      simp only [BitVec.toNat_ofNat] at e'
      rw [Nat.mod_eq_of_lt (by omega), Nat.mod_eq_of_lt (by omega)] at e'
      exact h (Fin.ext e')
    have hf : (BitVec.ofNat 32 a.val == BitVec.ofNat 32 b.val) = false := by simpa using hne
    simp only [IntOp.cmpi, IntOp.addi, BitVec.add_zero, hf]
    show (((BitVec.setWidth 32 (BitVec.ofBool false)).toInt : ℝ) : EReal) = 0
    norm_num

/-- Multiplying by the identity transposes. -/
theorem pay7_apply (X : FVec Ideal S16x1024 .f32) (j : Fin 1024) (k : Fin 16) :
    k1_pay7 (F := Ideal) X k1_pay6 (ix2 j k) = X (ix2 k j) := by
  pointwise [k1_pay7, k1_pay6]
  simp only [eye_entry]
  rw [Finset.sum_eq_single j]
  · rw [if_pos rfl, one_mul]
  · intro b _ hb
    rw [if_neg (Ne.symm hb), zero_mul]
  · intro h; exact absurd (Finset.mem_univ j) h

/-- What is stored for row block `b`, whose columns are column `b` and column `8 + b` of the transpose: the means' row and the
    reciprocal deviations' row. -/
theorem cols_apply (X : FVec Ideal S16x1024 .f32) (b : ℕ) (hb : b < 8) (h1 : S1024x16.Slices ![0, b] S1024x1)
    (h2 : S1024x16.Slices ![0, 8 + b] S1024x1) (j : Fin 1024) :
    concatenate S1024x2 1 [⟨S1024x1, extractStridedSlice S1024x1 ![0, b] (k1_pay7 (F := Ideal) X k1_pay6) h1⟩,
        ⟨S1024x1, extractStridedSlice S1024x1 ![0, 8 + b] (k1_pay7 (F := Ideal) X k1_pay6) h2⟩]
        concatenates_S1024x1_S1024x1_S1024x2_d1 (ix2 j 0) = X (ix2 (⟨b, by omega⟩ : Fin 16) j)
    ∧ concatenate S1024x2 1 [⟨S1024x1, extractStridedSlice S1024x1 ![0, b] (k1_pay7 (F := Ideal) X k1_pay6) h1⟩,
        ⟨S1024x1, extractStridedSlice S1024x1 ![0, 8 + b] (k1_pay7 (F := Ideal) X k1_pay6) h2⟩]
        concatenates_S1024x1_S1024x1_S1024x2_d1 (ix2 j 1) = X (ix2 (⟨8 + b, by omega⟩ : Fin 16) j) := by
  refine ⟨?_, ?_⟩ <;> rw [← pay7_apply X j] <;> pointwise

/-! ## The normalised block -/

theorem norm_apply (a b : Vec Ideal S1024x1 .bf16) (x : Vec Ideal S1024x2048 .bf16) (g e : Vec Ideal S1x2048 .bf16) (j : Fin 1024)
    (k : Fin 2048) :
    k2_pay1 (F := Ideal) a b x g e (ix2 j k) = (x (ix2 j k) - a (ix2 j 0)) * b (ix2 j 0) * g (ix2 0 k) + e (ix2 0 k) := by
  pointwise [k2_pay1]

end Cert.KernelIdeal.Norm

end
-- ==== Proof.Norm.Blocks.lean ====
/- The blocks, the slots and the tables at an index. -/
module

public import proofs.«01_k».proof.Proof.Norm.Payloads
public import Idealize.ShloMosaic.Lib.Pipeline.ValueKit.Geometry

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

variable (m : (ℓ : Loc nD τ sig) → Buf (Elt F) ℓ)

attribute [local irreducible] mrC sC qC gRow bRow

/-! ## The row blocks -/

theorem row_lt8 (t : Fin cfg0.N) : t.val < 8 := Nat.lt_of_lt_of_eq t.isLt n0

/-- Row `j` of block `t`. -/
def rowAt (t : ℕ) (ht : t < 8) (j : Fin 1024) : Fin 8192 := ⟨1024 * t + j.val, by omega⟩

theorem index0_0 : ∀ t : Fin cfg0.N, win0_0.index t = ![t.val, 0] := (by decide +kernel : ∀ t : Fin grid0.N, _)
theorem index2_0 : ∀ t : Fin cfg2.N, win2_0.index t = ![t.val, 0] := (by decide +kernel : ∀ t : Fin grid2.N, _)
theorem index2_1 : ∀ t : Fin cfg2.N, win2_1.index t = ![t.val, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![t.val, 0] := (by decide +kernel : ∀ t : Fin grid2.N, _)

theorem n2 : cfg2.N = 8 := N_2

theorem xblk_apply (c : Dev nD) (t : Fin cfg0.N) (j : Fin 1024) (k : Fin 2048) :
    xblk m c t (ix2 j k) = xarr m c (ix2 (rowAt t.val (row_lt8 t) j) k) := by
  unfold xarr
  blk_simp [xblk]
  congr 1
  blk_ext [index0_0, rowAt]

theorem row2_lt8 (t : Fin cfg2.N) : t.val < 8 := Nat.lt_of_lt_of_eq t.isLt n2

theorem xb_apply (c : Dev nD) (t : Fin cfg2.N) (j : Fin 1024) (k : Fin 2048) :
    xb m c t (ix2 j k) = xarr m c (ix2 (rowAt t.val (row2_lt8 t) j) k) := by
  blk_simp [xb]
  congr 1
  blk_ext [index2_0, rowAt]

theorem mrb_apply (c : Dev nD) (t : Fin cfg2.N) (j : Fin 1024) (k : Fin 2) :
    mrb m c t (ix2 j k) = mrC m c (ix2 (rowAt t.val (row2_lt8 t) j) k) := by
  blk_simp [mrb]
  congr 1
  blk_ext [index2_1, rowAt]

theorem gb_apply (c : Dev nD) (t : Fin cfg2.N) (k : Fin 2048) : gb m c t (ix2 0 k) = gRow m c (ix2 0 k) := by
  blk_simp [gb]
  congr 1
  blk_ext [index2_2]

theorem bb_apply (c : Dev nD) (t : Fin cfg2.N) (k : Fin 2048) : bb m c t (ix2 0 k) = bRow m c (ix2 0 k) := by
  blk_simp [bb]
  congr 1
  blk_ext [index2_3]

/-! ## The slots -/

theorem slab_apply (A : Comm F) (s : Dev nD) (k : Fin 16) (j : Fin 1024) : slab A s (ix3 0 k j) = A (ix3 (⟨s.val, s.isLt⟩ : Fin 4) k j) := by
  unfold slab
  show A ((Rect.unit (s := S4x16x1024) (k1_off4 s) S1x16x1024.size (k1_off4_inb s)).emb (ix3 0 k j)) = _
  congr 1
  funext d
  apply Fin.ext
  match d with
  | ⟨0, _⟩ => show k1_off4 s 0 + 1 * 0 = s.val; rw [k1_off4_eq]; rfl
  | ⟨1, _⟩ => show k1_off4 s 1 + 1 * k.val = k.val; rw [k1_off4_eq]; show 0 + 1 * k.val = _; omega
  | ⟨2, _⟩ => show k1_off4 s 2 + 1 * j.val = j.val; rw [k1_off4_eq]; show 0 + 1 * j.val = _; omega

theorem commOf_low (s q : Dev nD → FVec F S8x1024 .f32) (d : Fin 4) (k : Fin 16) (hk : k.val < 8) (j : Fin 1024) :
    commOf s q (ix3 d k j) = s d (ix2 ⟨k.val, hk⟩ j) := by
  unfold commOf
  refine (dif_pos (show k.val < 8 from hk)).trans ?_
  rw [ix2_eq_valueIdx]; rfl

theorem commOf_high (s q : Dev nD → FVec F S8x1024 .f32) (d : Fin 4) (k : Fin 8) (j : Fin 1024) :
    commOf s q (ix3 d (⟨8 + k.val, by omega⟩ : Fin 16) j) = q d (ix2 k j) := by
  unfold commOf
  refine (dif_neg (show ¬ 8 + k.val < 8 by omega)).trans ?_
  rw [ix2_eq_valueIdx]
  show q d (ValueIdx.ix2 ⟨8 + k.val - 8, _⟩ j) = _
  congr 2
  exact Fin.ext (by show 8 + k.val - 8 = k.val; omega)

end Cert.KernelIdeal.Norm

end
-- ==== Proof.Norm.Table.lean ====
/- The exchanged table and the parameters' rows at an index. -/
module

public import proofs.«01_k».proof.Proof.Norm.Blocks

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

variable (m : (ℓ : Loc nD τ sig) → Buf (Elt F) ℓ)

attribute [local irreducible] sC qC xarr

/-! ## The table the exchange leaves -/

/-- The table of a stack of means over reciprocal deviations: entry `(r, k)` is the stack's row `8 k + r / 1024` at lane `r mod 1024`. -/
def colsOf (X : FVec Ideal S16x1024 .f32) : FVec Ideal S8192x2 .bf16 := fun i =>
  X (ix2 (⟨8 * (i 1).val + (i 0).val / 1024, by
      have h0 : (i 0).val < 8192 := (i 0).isLt
      have h1 : (i 1).val < 2 := (i 1).isLt
      omega⟩ : Fin 16)
    (⟨(i 0).val % 1024, Nat.mod_lt _ (by decide)⟩ : Fin 1024))

/-- One of the eight stores lands the means' and the reciprocal deviations' rows of its row block. -/
theorem piece_cols (X : FVec Ideal S16x1024 .f32) (o : ℕ) (inb) (b : ℕ) (hb : b < 8) (ho : o = 1024 * b) (P : FVec Ideal S1024x2 .bf16)
    (h : ∀ j, P (ix2 j 0) = X (ix2 (⟨b, by omega⟩ : Fin 16) j) ∧ P (ix2 j 1) = X (ix2 (⟨8 + b, by omega⟩ : Fin 16) j))
    (x : S1024x2.Idx) :
    P x = colsOf X ((Rect.unit (s := S8192x2) ![o, 0] S1024x2.size inb).emb x) := by
  obtain ⟨j, k, rfl⟩ : ∃ (j : Fin 1024) (k : Fin 2), x = ix2 j k := ⟨x 0, x 1, (ValueIdx.eq_ix2 (n0 := 1024) (n1 := 2) x).trans (ix2_eq_valueIdx _ _).symm⟩
  have hj := j.isLt
  have e0 : (((Rect.unit (s := S8192x2) ![o, 0] S1024x2.size inb).emb (ix2 j k)) 0).val = 1024 * b + j.val := by
    show o + 1 * j.val = _; omega
  have e1 : (((Rect.unit (s := S8192x2) ![o, 0] S1024x2.size inb).emb (ix2 j k)) 1).val = k.val := by
    show 0 + 1 * k.val = _; omega
  have key : colsOf X ((Rect.unit (s := S8192x2) ![o, 0] S1024x2.size inb).emb (ix2 j k))
      = X (ix2 (⟨8 * k.val + b, by have := k.isLt; omega⟩ : Fin 16) j) := by
    unfold colsOf
    congr 2
    · exact Fin.ext (by show 8 * _ + _ / 1024 = 8 * k.val + b; rw [e0, e1]; omega)
    · exact Fin.ext (by show _ % 1024 = j.val; rw [e0]; omega)
  rw [key]
  obtain ⟨k, hk⟩ := k
  match k, hk with
  | 0, _ => exact ((h j).1).trans (by congr 2; exact Fin.ext (by show b = 8 * 0 + b; omega))
  | 1, _ => exact ((h j).2).trans (by congr 2)

/-- Each of the eight stores lands its part of the table. -/
theorem outPieces_cols (X : FVec Ideal S16x1024 .f32) : ∀ p ∈ outPieces X, ∀ x : p.1.shape.Idx, p.2 x = colsOf X (p.1.emb x) := by
  unfold outPieces
  refine List.forall_mem_cons.mpr ⟨piece_cols X 7168 inb_S8192x2_S1024x2_7168_0 7 (by decide) rfl (k1_pay15 X k1_pay6)
    (cols_apply X 7 (by decide) slices_S1024x16_o0_7_S1024x1 slices_S1024x16_o0_15_S1024x1), ?_⟩
  refine List.forall_mem_cons.mpr ⟨piece_cols X 6144 inb_S8192x2_S1024x2_6144_0 6 (by decide) rfl (k1_pay14 X k1_pay6)
    (cols_apply X 6 (by decide) slices_S1024x16_o0_6_S1024x1 slices_S1024x16_o0_14_S1024x1), ?_⟩
  refine List.forall_mem_cons.mpr ⟨piece_cols X 5120 inb_S8192x2_S1024x2_5120_0 5 (by decide) rfl (k1_pay13 X k1_pay6)
    (cols_apply X 5 (by decide) slices_S1024x16_o0_5_S1024x1 slices_S1024x16_o0_13_S1024x1), ?_⟩
  refine List.forall_mem_cons.mpr ⟨piece_cols X 4096 inb_S8192x2_S1024x2_4096_0 4 (by decide) rfl (k1_pay12 X k1_pay6)
    (cols_apply X 4 (by decide) slices_S1024x16_o0_4_S1024x1 slices_S1024x16_o0_12_S1024x1), ?_⟩
  refine List.forall_mem_cons.mpr ⟨piece_cols X 3072 inb_S8192x2_S1024x2_3072_0 3 (by decide) rfl (k1_pay11 X k1_pay6)
    (cols_apply X 3 (by decide) slices_S1024x16_o0_3_S1024x1 slices_S1024x16_o0_11_S1024x1), ?_⟩
  refine List.forall_mem_cons.mpr ⟨piece_cols X 2048 inb_S8192x2_S1024x2_2048_0 2 (by decide) rfl (k1_pay10 X k1_pay6)
    (cols_apply X 2 (by decide) slices_S1024x16_o0_2_S1024x1 slices_S1024x16_o0_10_S1024x1), ?_⟩
  refine List.forall_mem_cons.mpr ⟨piece_cols X 1024 inb_S8192x2_S1024x2_1024_0 1 (by decide) rfl (k1_pay9 X k1_pay6)
    (cols_apply X 1 (by decide) slices_S1024x16_o0_1_S1024x1 slices_S1024x16_o0_9_S1024x1), ?_⟩
  refine List.forall_mem_cons.mpr ⟨piece_cols X 0 inb_S8192x2_S1024x2_0_0 0 (by decide) rfl (k1_pay8 X k1_pay6)
    (cols_apply X 0 (by decide) slices_S1024x16_o0_0_S1024x1 slices_S1024x16_o0_8_S1024x1), ?_⟩
  exact fun p hp => absurd hp List.not_mem_nil

/-- The eight stores leave the whole table, whatever was there. -/
theorem read_outPieces (X : FVec Ideal S16x1024 .f32) (f : (cc1_stg2_0 : Ref sig .tc).ty.Contents (Elt Ideal)) :
    outM.view.read (Elt Ideal) (outM.view.writes (Elt Ideal) f (outPieces X)) = colsOf X :=
  funext fun i => View.read_writes_apply_of_pieces (v := outM.view) (f := f) (colsOf X) (outPieces X) (outPieces_cols X) i (outPieces_cover X i)

theorem outC_cols (A : Comm Ideal) (c : Dev nD) : outC A c = colsOf (mr A c) := by
  unfold outC
  generalize mr A c = X
  generalize (fun _ => Scalar.ofBits (F := Ideal) .bf16 0#16 : (cc1_stg2_0 : Ref sig .tc).ty.Contents (Elt Ideal)) = f
  exact (View.read_whole cc1_stg2_0 (outM.view.writes (Elt Ideal) f (outPieces X))).symm.trans (read_outPieces X f)

/-! ## The statistics as sums over the devices -/

/-- The four devices in the order the exchange adds them are all devices. -/
theorem sum_peers (f : Dev nD → EReal) (c : Dev nD) : f c + f (pk 3 c) + f (pk 2 c) + f (pk 1 c) = ∑ d : Dev nD, f d := by
  have h : (∑ d : Dev nD, f d) = f 0 + f 1 + f 2 + f 3 := Fin.sum_univ_four f
  rw [h]
  fin_cases c
  · show f 0 + f 3 + f 2 + f 1 = _; abel
  · show f 1 + f 0 + f 3 + f 2 = _; abel
  · show f 2 + f 1 + f 0 + f 3 = _; abel
  · show f 3 + f 2 + f 1 + f 0 = _; abel

theorem sum4_low (s q : Dev nD → FVec Ideal S8x1024 .f32) (c : Dev nD) (k : Fin 16) (hk : k.val < 8) (j : Fin 1024) :
    sum4 (slab (commOf s q) c) (slab (commOf s q) (pk 3 c)) (slab (commOf s q) (pk 2 c)) (slab (commOf s q) (pk 1 c)) k j
      = ∑ d : Dev nD, s d (ix2 (⟨k.val, hk⟩ : Fin 8) j) := by
  unfold sum4
  simp only [slab_apply, commOf_low _ _ _ k hk]
  exact sum_peers (fun d => s d (ix2 (⟨k.val, hk⟩ : Fin 8) j)) c

theorem sum4_high (s q : Dev nD → FVec Ideal S8x1024 .f32) (c : Dev nD) (k : Fin 8) (j : Fin 1024) :
    sum4 (slab (commOf s q) c) (slab (commOf s q) (pk 3 c)) (slab (commOf s q) (pk 2 c)) (slab (commOf s q) (pk 1 c)) ⟨8 + k.val, by omega⟩ j
      = ∑ d : Dev nD, q d (ix2 k j) := by
  unfold sum4
  simp only [slab_apply, commOf_high]
  exact sum_peers (fun d => q d (ix2 k j)) c

variable (μ : (ℓ : Loc nD τ sig) → Buf (Elt Ideal) ℓ)

/-- A row's sum and sum of squares over all devices' columns. -/
def rowS (r : Fin 8192) : EReal := ∑ d : Dev nD, ∑ k : Fin 2048, xarr μ d (ix2 r k)
def rowQ (r : Fin 8192) : EReal := ∑ d : Dev nD, ∑ k : Fin 2048, xarr μ d (ix2 r k) * xarr μ d (ix2 r k)

theorem sC_apply (d : Dev nD) (b : Fin 8) (j : Fin 1024) :
    sC μ d (ix2 b j) = ∑ k : Fin 2048, xarr μ d (ix2 (rowAt b.val b.isLt j) k) := by
  unfold sC
  show k0_pay3 (xblk μ d ⟨b.val, _⟩) (ValueIdx.ix2 0 j) = _
  rw [← ix2_eq_valueIdx, rowSum_apply]
  simp only [xblk_apply]

theorem qC_apply (d : Dev nD) (b : Fin 8) (j : Fin 1024) :
    qC μ d (ix2 b j) = ∑ k : Fin 2048, xarr μ d (ix2 (rowAt b.val b.isLt j) k) * xarr μ d (ix2 (rowAt b.val b.isLt j) k) := by
  unfold qC
  show k0_pay4 (xblk μ d ⟨b.val, _⟩) (ValueIdx.ix2 0 j) = _
  rw [← ix2_eq_valueIdx, rowSquares_apply]
  simp only [xblk_apply]

/-- The table's first column is the rows' means, its second the rows' reciprocal deviations. -/
theorem mrC_mean (c : Dev nD) (r : Fin 8192) : mrC μ c (ix2 r 0) = RowNorm.meanOf (rowS μ r) := by
  have hr := r.isLt
  unfold mrC
  rw [outC_cols]
  show mr (commOf (sC μ) (qC μ)) c (ix2 (⟨8 * 0 + r.val / 1024, _⟩ : Fin 16) (⟨r.val % 1024, _⟩ : Fin 1024)) = _
  unfold mr
  rw [pay5_mean _ _ _ _ _ (by show 8 * 0 + r.val / 1024 < 8; omega), sum4_low _ _ _ _ (by show 8 * 0 + r.val / 1024 < 8; omega)]
  simp only [sC_apply]
  unfold rowS
  have e : rowAt (8 * 0 + r.val / 1024) (by omega) (⟨r.val % 1024, Nat.mod_lt _ (by decide)⟩ : Fin 1024) = r :=
    Fin.ext (by show 1024 * (8 * 0 + r.val / 1024) + r.val % 1024 = r.val; omega)
  rw [e]

theorem mrC_rstd (c : Dev nD) (r : Fin 8192) : mrC μ c (ix2 r 1) = RowNorm.rstdOf (rowS μ r) (rowQ μ r) := by
  have hr := r.isLt
  unfold mrC
  rw [outC_cols]
  show mr (commOf (sC μ) (qC μ)) c (ix2 (⟨8 + (⟨r.val / 1024, by omega⟩ : Fin 8).val, _⟩ : Fin 16) (⟨r.val % 1024, _⟩ : Fin 1024)) = _
  unfold mr
  rw [pay5_rstd, sum4_low _ _ _ _ (by show r.val / 1024 < 8; omega), sum4_high]
  simp only [sC_apply, qC_apply]
  unfold rowS rowQ
  have e : rowAt (r.val / 1024) (by omega) (⟨r.val % 1024, Nat.mod_lt _ (by decide)⟩ : Fin 1024) = r :=
    Fin.ext (by show 1024 * (r.val / 1024) + r.val % 1024 = r.val; omega)
  rw [e]

/-! ## The scale and the shift -/

theorem gRow_apply (c : Dev nD) (k : Fin 2048) : gRow μ c (ix2 0 k) = μ ((c : Thread nD τ).loc main_arg1) (ix1 k) := by
  have h : gRow μ c = shapeCast S1x2048 (μ ((c : Thread nD τ).loc main_arg1)) shapeCasts_S2048_S1x2048 := by
    unfold gRow
    show StableHlo.after hostOps2 (V2 μ (fun _ => outsA μ) c) (Proc.tc.devRef main_v3) = _
    unfold hostOps2
    after_results_simp
    rw [V2_of μ (fun _ => outsA μ) c main_arg1 (by decide), V1_of μ (fun _ => outsA μ) c main_arg1 (by decide)]
    rfl
  rw [h]
  pointwise

theorem bRow_apply (c : Dev nD) (k : Fin 2048) : bRow μ c (ix2 0 k) = μ ((c : Thread nD τ).loc main_arg2) (ix1 k) := by
  have h : bRow μ c = shapeCast S1x2048 (μ ((c : Thread nD τ).loc main_arg2)) shapeCasts_S2048_S1x2048 := by
    unfold bRow
    show StableHlo.after hostOps2 (V2 μ (fun _ => outsA μ) c) (Proc.tc.devRef main_v4) = _
    unfold hostOps2
    after_results_simp
    rw [V2_of μ (fun _ => outsA μ) c main_arg2 (by decide), V1_of μ (fun _ => outsA μ) c main_arg2 (by decide)]
    rfl
  rw [h]
  pointwise

/-! ## The result -/

/-- Device `c`'s result at an entry: the deviation from the row's mean times the reciprocal deviation, scaled and shifted. -/
def resultC (c : Dev nD) : FVec Ideal S8192x2048 .bf16 := fun i =>
  (xarr μ c i - RowNorm.meanOf (rowS μ (i 0))) * RowNorm.rstdOf (rowS μ (i 0)) (rowQ μ (i 0))
    * μ ((c : Thread nD τ).loc main_arg1) (ix1 (i 1)) + μ ((c : Thread nD τ).loc main_arg2) (ix1 (i 1))

theorem colA_apply (B : FVec Ideal S1024x2 .bf16) (j : Fin 1024) : colA B (ix2 j 0) = B (ix2 j 0) := by
  unfold colA
  rw [ix2_eq_valueIdx]; rfl
theorem colB_apply (B : FVec Ideal S1024x2 .bf16) (j : Fin 1024) : colB B (ix2 j 0) = B (ix2 j 1) := by
  unfold colB
  rw [ix2_eq_valueIdx]; rfl

theorem yblk_apply (c : Dev nD) (t : Fin cfg2.N) (j : Fin 1024) (k : Fin 2048) :
    yblk μ c t (ix2 j k) = resultC μ c (ix2 (rowAt t.val (row2_lt8 t) j) k) := by
  unfold yblk resultC
  rw [norm_apply, colA_apply, colB_apply, xb_apply, mrb_apply, mrb_apply, gb_apply, bb_apply, gRow_apply, bRow_apply, mrC_mean, mrC_rstd]
  rfl

end Cert.KernelIdeal.Norm

end
-- ==== Proof.Norm.Value.lean ====
/- The result array from its blocks. -/
module

public import proofs.«01_k».proof.Proof.Norm.Table

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat)

variable {F : FTy → Type} [FloatOps F]

local notation "𝕄" => MT nD τ sig Unit (Elt F) ℕ UU ℕ

variable (m : (ℓ : Loc nD τ sig) → Buf (Elt F) ℓ)

variable (μ : (ℓ : Loc nD τ sig) → Buf (Elt Ideal) ℓ)

attribute [local irreducible] mrC sC qC xarr gRow bRow resultC yblk

/-- The normalising region leaves the result, block by block. -/
theorem result_eq (c : Dev nD) : (dat2 μ c).arrAt 4 cfg2.N = resultC μ c := by
  refine (dat2 μ c).arrAt_eq_of_covers 4 (resultC μ c) (by decide +kernel) fun t hf y => ?_
  blk_simp
  obtain ⟨j, k, rfl⟩ : ∃ (j : Fin 1024) (k : Fin 2048), y = ix2 j k :=
    ⟨y 0, y 1, (ValueIdx.eq_ix2 (n0 := 1024) (n1 := 2048) y).trans (ix2_eq_valueIdx _ _).symm⟩
  refine (yblk_apply μ c t j k).trans ?_
  congr 1
  blk_ext [index2_4, rowAt]

end Cert.KernelIdeal.Norm

end
-- ==== Proof.Norm.Reference.lean ====
/- The reference's result at an index. -/
module

public import proofs.«01_k».proof.Proof.Gen.ReferenceIdeal.Read
public import proofs.«01_k».proof.Proof.Norm.Equation
public import Idealize.ShloMosaic.Lib.Pointwise

@[expose] public section

set_option maxRecDepth 16384

noncomputable section

namespace Cert.ReferenceIdeal.Norm

open Cert.ReferenceIdeal Cert.ReferenceIdeal.Gen Cert.ReferenceIdeal.Read
open Idealize.ShloMosaic

/-- The columns less no correction are the columns, and there are some. -/
theorem cols_sub : Ideal.ofBits .f32 0x46000000#32 - FloatOps.sitofp (F := Ideal) .f32 (0#32 : BitVec 32) = RowNorm.cols := by
  have h : FloatOps.sitofp (F := Ideal) .f32 (0#32 : BitVec 32) = 0 := by
    show (((0#32 : BitVec 32).toInt : ℝ) : EReal) = 0
    norm_num
  rw [h, sub_zero]; rfl
theorem cols_pos : 0 < RowNorm.cols := by
  rw [RowNorm.cols_eq]; exact_mod_cast (by norm_num : (0 : ℝ) < 8192)

/-- The reference's result at a row and a column: the deviation from the row's mean over the square root of the shifted
    variance, scaled and shifted by the column's parameters. -/
theorem result_apply (x : FVec Ideal S8192x8192 .bf16) (g b : FVec Ideal S8192 .bf16) (r j : Fin 8192) :
    val_main_v21 (F := Ideal) x g b (ix2 r j)
      = Ideal.div (g (ix1 j) * (x (ix2 r j) - RowNorm.meanOf (∑ k, x (ix2 r k))))
          (Ideal.sqrt (RowNorm.meanOf (∑ k, (x (ix2 r k) - RowNorm.meanOf (∑ k, x (ix2 r k)))
            * (x (ix2 r k) - RowNorm.meanOf (∑ k, x (ix2 r k)))) + RowNorm.eps)) + b (ix1 j) := by
  pointwise [val_main_v0, val_main_v1, val_main_v2, val_main_cst, val_main_v3, val_main_v4, val_main_cst_0, val_main_v5, val_main_v6,
    val_main_c, val_main_call0_cst, val_main_call0_v0, val_main_call0_v1, val_main_call0_cst_0, val_main_call0_v2,
    val_main_call0_v3, val_main_call0_v4, val_main_call0_v5, val_main_call0_v6, val_main_call0_v7, val_main_call0_cst_1,
    val_main_call0_v8, val_main_call0_cst_2, val_main_call0_v9, val_main_call0_v10, val_main_call0_v11, val_main_call0_v12,
    val_main_call0_cst_3, val_main_call0_v13, val_main_call0_cst_4, val_main_call0_call0_v0, val_main_call0_call0_v1, val_main_v7,
    val_main_v8, val_main_v9, val_main_v10, val_main_v11, val_main_v12, val_main_cst_1, val_main_v13, val_main_v14, val_main_v15,
    val_main_v16, val_main_v17, val_main_v18, val_main_v19, val_main_v20, val_main_v21]
  rw [cols_sub, if_pos cols_pos]
  rfl

end Cert.ReferenceIdeal.Norm

end
-- ==== Proof.Norm.Algebraic.lean ====
/- The kernel's results are the blocks of the reference's. -/
module

public import proofs.«01_k».proof.Proof.Norm.Frames
public import proofs.«01_k».proof.Proof.Norm.Value
public import proofs.«01_k».proof.Proof.Norm.Reference

@[expose] public section

set_option maxRecDepth 16384

noncomputable section

namespace Cert.Proof

open Idealize.ShloMosaic Idealize.ShloMosaic.TcCoe Idealize.SL.Sem
open Cert.KernelIdeal (S8192x2048 S2048 nD τ sig)
open Cert.KernelIdeal.Norm (xarr rowS rowQ resultC)

/-- The precondition's function needs one fact, that a scalar broadcasts to the block. -/
theorem finite_facts : Cert.Pre_finite_x_KernelIdeal.Facts := ⟨by decide⟩
theorem finite_facts_reference : Cert.Pre_finite_x_ReferenceIdeal.Facts := ⟨by decide⟩

/-- An input of absolute value below infinity is a real. -/
theorem finite_entry [Cert.Pre_finite_x_KernelIdeal.Facts] (x : FVec Ideal S8192x2048 .bf16) (g b : FVec Ideal S2048 .bf16)
    (h : Cert.Pre_finite_x_KernelIdeal.fn (F := Ideal) x g b = fun _ => 1#1) (r : Fin 8192) (k : Fin 2048) :
    ∃ a : ℝ, x (ix2 r k) = (a : EReal) := by
  have h1 := congrFun h (ix2 r k)
  pointwise [Cert.Pre_finite_x_KernelIdeal.fn] at h1
  have htop : Ideal.ofBits .bf16 0x7F80#16 = ⊤ := by simp [Ideal.ofBits, Ideal.ieee]
  rw [htop] at h1
  generalize x (ix2 r k) = a at h1 ⊢
  have hlt : max a (-a) < ⊤ := by
    by_contra hn
    have h2 : BitVec.ofBool (decide (max a (-a) < ⊤)) = 1#1 := h1
    rw [decide_eq_false hn] at h2
    exact absurd h2 (by decide)
  induction a using EReal.rec with
  | bot => simp at hlt
  | top => simp at hlt
  | coe a => exact ⟨a, rfl⟩

/-- Column `k` of device `c`'s block. -/
def colAt (c : Fin 4) (k : Fin 2048) : Fin 8192 := ⟨c.val * 2048 + k.val, by omega⟩

theorem colAt_div_mod (j : Fin 8192) : colAt ⟨j.val / 2048, by omega⟩ ⟨j.val % 2048, Nat.mod_lt _ (by decide)⟩ = j :=
  Fin.ext (by show j.val / 2048 * 2048 + j.val % 2048 = j.val; omega)

/-- A sum over the devices' columns is the sum over all columns. -/
theorem sum_cols (f : Fin 8192 → EReal) : ∑ c : Fin 4, ∑ k : Fin 2048, f (colAt c k) = ∑ j, f j := by
  rw [← Fintype.sum_prod_type' (fun c k => f (colAt c k))]
  refine Fintype.sum_bijective (fun p : Fin 4 × Fin 2048 => colAt p.1 p.2) ⟨fun p q h => ?_, fun j => ⟨(_, _), colAt_div_mod j⟩⟩ _ _ (fun _ => rfl)
  have h1 : p.1.val * 2048 + p.2.val = q.1.val * 2048 + q.2.val := congrArg Fin.val h
  have hp := p.2.isLt
  have hq := q.2.isLt
  exact Prod.ext (Fin.ext (by omega)) (Fin.ext (by omega))

theorem block_x (X : FVec Ideal Cert.ReferenceIdeal.S8192x8192 .bf16) (c : Fin 4) (r : Fin 8192) (k : Fin 2048) :
    Layout.block ⟨2, ![8192, 2048]⟩ ⟨2, ![8192, 8192]⟩ 1 4 c X (by decide) (ix2 r k) = X (ix2 r (colAt c k)) := by
  rw [Layout.block_apply]
  congr 1
  funext a
  match a with
  | ⟨0, _⟩ => rfl
  | ⟨1, _⟩ => rfl

theorem block_row (G : FVec Ideal Cert.ReferenceIdeal.S8192 .bf16) (c : Fin 4) (k : Fin 2048) :
    Layout.block ⟨1, ![2048]⟩ ⟨1, ![8192]⟩ 0 4 c G (by decide) (ix1 k) = G (ix1 (colAt c k)) := by
  rw [Layout.block_apply]
  congr 1
  funext a
  match a with
  | ⟨0, _⟩ => rfl

variable (m : (ℓ : Loc nD τ sig) → Buf (Elt Ideal) ℓ)

/-- Device `c`'s result is block `c` of the reference's, the inputs being blocks and the first one real. -/
theorem result_block (X : FVec Ideal Cert.ReferenceIdeal.S8192x8192 .bf16) (G B : FVec Ideal Cert.ReferenceIdeal.S8192 .bf16)
    (h0 : ∀ (c : Dev nD) r k, xarr m c (ix2 r k) = X (ix2 r (colAt c k)))
    (h1 : ∀ (c : Dev nD) k, m ((c : Thread nD τ).loc Cert.KernelIdeal.main_arg1) (ix1 k) = G (ix1 (colAt c k)))
    (h2 : ∀ (c : Dev nD) k, m ((c : Thread nD τ).loc Cert.KernelIdeal.main_arg2) (ix1 k) = B (ix1 (colAt c k)))
    (hX : ∀ r j, ∃ a : ℝ, X (ix2 r j) = (a : EReal)) (c : Dev nD) :
    resultC m c = Layout.block ⟨2, ![8192, 2048]⟩ ⟨2, ![8192, 8192]⟩ 1 4 c (Cert.ReferenceIdeal.Read.val_main_v21 (F := Ideal) X G B) := by
  funext i
  obtain ⟨r, k, rfl⟩ : ∃ (r : Fin 8192) (k : Fin 2048), i = ix2 r k :=
    ⟨i 0, i 1, (ValueIdx.eq_ix2 (n0 := 8192) (n1 := 2048) i).trans (ix2_eq_valueIdx _ _).symm⟩
  rw [block_x, Cert.ReferenceIdeal.Norm.result_apply, ← RowNorm.norm_eq (fun j => X (ix2 r j)) (hX r)]
  have hS : rowS m r = ∑ j, X (ix2 r j) := by
    unfold rowS
    simp only [h0]
    exact sum_cols (fun j => X (ix2 r j))
  have hQ : rowQ m r = ∑ j, X (ix2 r j) * X (ix2 r j) := by
    unfold rowQ
    simp only [h0]
    exact sum_cols (fun j => X (ix2 r j) * X (ix2 r j))
  rw [← hS, ← hQ, ← h0, ← h1, ← h2]
  rfl

theorem algebraic [Cert.Pre_finite_x_KernelIdeal.Facts] : Cert.algebraic_KernelIdeal_ReferenceIdeal_pre_finite_x_KernelIdeal := by
  intro m g m' g' hpre hblk
  refine ⟨Cert.ReferenceIdeal.Read.val_main_v21 (F := Ideal) (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2)), ?_, ?_⟩
  · have h0 : ∀ (c : Dev nD) r k, xarr m c (ix2 r k) = m' ((0 : Dev Cert.ReferenceIdeal.nD).tc.loc Cert.ReferenceIdeal.main_arg0) (ix2 r (colAt c k)) := fun c r k =>
      (congrFun (hblk c).1 (ix2 r k)).trans (block_x _ c r k)
    have hX : ∀ (r j : Fin 8192), ∃ a : ℝ, m' ((0 : Dev Cert.ReferenceIdeal.nD).tc.loc Cert.ReferenceIdeal.main_arg0) (ix2 r j) = (a : EReal) := fun r j => by
      obtain ⟨a, ha⟩ := finite_entry _ _ _ (hpre ⟨j.val / 2048, by have := j.isLt; show _ < 4; omega⟩) r ⟨j.val % 2048, Nat.mod_lt _ (by decide)⟩
      refine ⟨a, ha ▸ ?_⟩
      have e := h0 ⟨j.val / 2048, by have := j.isLt; show _ < 4; omega⟩ r ⟨j.val % 2048, Nat.mod_lt _ (by decide)⟩
      exact (e.trans (by congr 2; exact colAt_div_mod j)).symm
    refine (θ_run Cert.KernelIdeal.defs _ _).mono (fun r h c => ?_) (Cert.KernelIdeal.Norm.run_main (F := Ideal) m g)
    refine ⟨((h.1 c).2.trans (Cert.KernelIdeal.Norm.result_eq m c)).trans (result_block m _ _ _ h0 (fun c k => (congrFun (hblk c).2.1 (ix1 k)).trans (block_row _ c k))
      (fun c k => (congrFun (hblk c).2.2 (ix1 k)).trans (block_row _ c k)) hX c), (h.1 c).1⟩
  · refine (θ_run Cert.ReferenceIdeal.defs _ _).mono (fun r h => ?_) (Cert.ReferenceIdeal.Value.run (F := Ideal) m' g')
    exact ⟨(h 0).1.trans (Cert.ReferenceIdeal.Read.val_main_v21_eq _ _ _), (h 0).2⟩

end Cert.Proof

end
-- ==== Proof.lean ====
/- The proof of the certificate's claims: the frames, the identity between the two readings of the kernel, and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Norm.Frames
public import proofs.«01_k».proof.Proof.Norm.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  finite_facts, finite_facts_reference, frame_kernel, frame_ideal, fun m ρ _ => frame_ideal m ρ trivial, frame_reference,
  fun m ρ _ => frame_reference m ρ trivial, trivial, @algebraic finite_facts⟩

end Cert.Proof

end
